-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DefinitionIdeal (m : (ℓ : Loc Cert.DefinitionIdeal.nD Cert.DefinitionIdeal.τ Cert.DefinitionIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_DefinitionIdeal [hDefinitionIdeal : Cert.DefinitionIdeal.Facts] : Prop :=
  ∀ (m : (ℓ : Loc Cert.DefinitionIdeal.nD Cert.DefinitionIdeal.τ Cert.DefinitionIdeal.sig) → Buf (Elt Ideal) ℓ) (g : Dev Cert.DefinitionIdeal.nD → PrngReg), Pre_DefinitionIdeal m →
    θ_run (Cert.DefinitionIdeal.defs (F := Ideal)) (onTc (τ := Cert.DefinitionIdeal.τ) (Cert.DefinitionIdeal.main (F := Ideal))) ⟨m, fun _ => 0, g⟩ (fun r => (∀ c : Dev Cert.DefinitionIdeal.nD,
      r.2.mem ((c.tc : Thread Cert.DefinitionIdeal.nD Cert.DefinitionIdeal.τ).loc Cert.DefinitionIdeal.main_arg0) = m ((c.tc : Thread Cert.DefinitionIdeal.nD Cert.DefinitionIdeal.τ).loc Cert.DefinitionIdeal.main_arg0)
      ∧ r.2.mem ((c.tc : Thread Cert.DefinitionIdeal.nD Cert.DefinitionIdeal.τ).loc Cert.DefinitionIdeal.main_arg1) = m ((c.tc : Thread Cert.DefinitionIdeal.nD Cert.DefinitionIdeal.τ).loc Cert.DefinitionIdeal.main_arg1)
      ∧ r.2.mem ((c.tc : Thread Cert.DefinitionIdeal.nD Cert.DefinitionIdeal.τ).loc Cert.DefinitionIdeal.main_arg2) = m ((c.tc : Thread Cert.DefinitionIdeal.nD Cert.DefinitionIdeal.τ).loc Cert.DefinitionIdeal.main_arg2)
      ∧ r.2.mem ((c.tc : Thread Cert.DefinitionIdeal.nD Cert.DefinitionIdeal.τ).loc Cert.DefinitionIdeal.main_arg3) = m ((c.tc : Thread Cert.DefinitionIdeal.nD Cert.DefinitionIdeal.τ).loc Cert.DefinitionIdeal.main_arg3)
      ∧ r.2.mem ((c.tc : Thread Cert.DefinitionIdeal.nD Cert.DefinitionIdeal.τ).loc Cert.DefinitionIdeal.main_arg4) = m ((c.tc : Thread Cert.DefinitionIdeal.nD Cert.DefinitionIdeal.τ).loc Cert.DefinitionIdeal.main_arg4)
      ∧ r.2.mem ((c.tc : Thread Cert.DefinitionIdeal.nD Cert.DefinitionIdeal.τ).loc Cert.DefinitionIdeal.main_arg5) = m ((c.tc : Thread Cert.DefinitionIdeal.nD Cert.DefinitionIdeal.τ).loc Cert.DefinitionIdeal.main_arg5)
      ∧ r.2.mem ((c.tc : Thread Cert.DefinitionIdeal.nD Cert.DefinitionIdeal.τ).loc Cert.DefinitionIdeal.main_arg6) = m ((c.tc : Thread Cert.DefinitionIdeal.nD Cert.DefinitionIdeal.τ).loc Cert.DefinitionIdeal.main_arg6)
      ∧ r.2.mem ((c.tc : Thread Cert.DefinitionIdeal.nD Cert.DefinitionIdeal.τ).loc Cert.DefinitionIdeal.main_arg7) = m ((c.tc : Thread Cert.DefinitionIdeal.nD Cert.DefinitionIdeal.τ).loc Cert.DefinitionIdeal.main_arg7)
      ∧ r.2.mem ((c.tc : Thread Cert.DefinitionIdeal.nD Cert.DefinitionIdeal.τ).loc Cert.DefinitionIdeal.main_arg8) = m ((c.tc : Thread Cert.DefinitionIdeal.nD Cert.DefinitionIdeal.τ).loc Cert.DefinitionIdeal.main_arg8)
      ∧ r.2.mem ((c.tc : Thread Cert.DefinitionIdeal.nD Cert.DefinitionIdeal.τ).loc Cert.DefinitionIdeal.main_arg9) = m ((c.tc : Thread Cert.DefinitionIdeal.nD Cert.DefinitionIdeal.τ).loc Cert.DefinitionIdeal.main_arg9)
      ∧ r.2.mem ((c.tc : Thread Cert.DefinitionIdeal.nD Cert.DefinitionIdeal.τ).loc Cert.DefinitionIdeal.main_arg10) = m ((c.tc : Thread Cert.DefinitionIdeal.nD Cert.DefinitionIdeal.τ).loc Cert.DefinitionIdeal.main_arg10)
      ∧ r.2.mem ((c.tc : Thread Cert.DefinitionIdeal.nD Cert.DefinitionIdeal.τ).loc Cert.DefinitionIdeal.main_arg11) = m ((c.tc : Thread Cert.DefinitionIdeal.nD Cert.DefinitionIdeal.τ).loc Cert.DefinitionIdeal.main_arg11)
      ∧ r.2.mem ((c.tc : Thread Cert.DefinitionIdeal.nD Cert.DefinitionIdeal.τ).loc Cert.DefinitionIdeal.main_arg12) = m ((c.tc : Thread Cert.DefinitionIdeal.nD Cert.DefinitionIdeal.τ).loc Cert.DefinitionIdeal.main_arg12)
      ∧ r.2.mem ((c.tc : Thread Cert.DefinitionIdeal.nD Cert.DefinitionIdeal.τ).loc Cert.DefinitionIdeal.main_arg13) = m ((c.tc : Thread Cert.DefinitionIdeal.nD Cert.DefinitionIdeal.τ).loc Cert.DefinitionIdeal.main_arg13))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10)
      ∧ r.2.mem ((c.tc : Thread Cert.Reference.nD Cert.Reference.τ).loc Cert.Reference.main_arg11) = m ((c.tc : Thread Cert.Reference.nD Cert.Reference.τ).loc Cert.Reference.main_arg11)
      ∧ r.2.mem ((c.tc : Thread Cert.Reference.nD Cert.Reference.τ).loc Cert.Reference.main_arg12) = m ((c.tc : Thread Cert.Reference.nD Cert.Reference.τ).loc Cert.Reference.main_arg12)
      ∧ r.2.mem ((c.tc : Thread Cert.Reference.nD Cert.Reference.τ).loc Cert.Reference.main_arg13) = m ((c.tc : Thread Cert.Reference.nD Cert.Reference.τ).loc Cert.Reference.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def algebraic_KernelIdeal_DefinitionIdeal [hKernelIdeal : Cert.KernelIdeal.Facts] [hDefinitionIdeal : Cert.DefinitionIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.DefinitionIdeal.nD Cert.DefinitionIdeal.τ Cert.DefinitionIdeal.sig) → Buf (Elt Ideal) ℓ) (g' : Dev Cert.DefinitionIdeal.nD → PrngReg), Pre_KernelIdeal m →
    (∀ c : Dev Cert.KernelIdeal.nD,
      m' ((c.tc : Thread Cert.DefinitionIdeal.nD Cert.DefinitionIdeal.τ).loc Cert.DefinitionIdeal.main_arg0) = m ((c.tc : Thread Cert.KernelIdeal.nD Cert.KernelIdeal.τ).loc Cert.KernelIdeal.main_arg0)
      ∧ m' ((c.tc : Thread Cert.DefinitionIdeal.nD Cert.DefinitionIdeal.τ).loc Cert.DefinitionIdeal.main_arg1) = m ((c.tc : Thread Cert.KernelIdeal.nD Cert.KernelIdeal.τ).loc Cert.KernelIdeal.main_arg1)
      ∧ m' ((c.tc : Thread Cert.DefinitionIdeal.nD Cert.DefinitionIdeal.τ).loc Cert.DefinitionIdeal.main_arg2) = m ((c.tc : Thread Cert.KernelIdeal.nD Cert.KernelIdeal.τ).loc Cert.KernelIdeal.main_arg2)
      ∧ m' ((c.tc : Thread Cert.DefinitionIdeal.nD Cert.DefinitionIdeal.τ).loc Cert.DefinitionIdeal.main_arg3) = m ((c.tc : Thread Cert.KernelIdeal.nD Cert.KernelIdeal.τ).loc Cert.KernelIdeal.main_arg3)
      ∧ m' ((c.tc : Thread Cert.DefinitionIdeal.nD Cert.DefinitionIdeal.τ).loc Cert.DefinitionIdeal.main_arg4) = m ((c.tc : Thread Cert.KernelIdeal.nD Cert.KernelIdeal.τ).loc Cert.KernelIdeal.main_arg4)
      ∧ m' ((c.tc : Thread Cert.DefinitionIdeal.nD Cert.DefinitionIdeal.τ).loc Cert.DefinitionIdeal.main_arg5) = m ((c.tc : Thread Cert.KernelIdeal.nD Cert.KernelIdeal.τ).loc Cert.KernelIdeal.main_arg5)
      ∧ m' ((c.tc : Thread Cert.DefinitionIdeal.nD Cert.DefinitionIdeal.τ).loc Cert.DefinitionIdeal.main_arg6) = m ((c.tc : Thread Cert.KernelIdeal.nD Cert.KernelIdeal.τ).loc Cert.KernelIdeal.main_arg6)
      ∧ m' ((c.tc : Thread Cert.DefinitionIdeal.nD Cert.DefinitionIdeal.τ).loc Cert.DefinitionIdeal.main_arg7) = m ((c.tc : Thread Cert.KernelIdeal.nD Cert.KernelIdeal.τ).loc Cert.KernelIdeal.main_arg7)
      ∧ m' ((c.tc : Thread Cert.DefinitionIdeal.nD Cert.DefinitionIdeal.τ).loc Cert.DefinitionIdeal.main_arg8) = m ((c.tc : Thread Cert.KernelIdeal.nD Cert.KernelIdeal.τ).loc Cert.KernelIdeal.main_arg8)
      ∧ m' ((c.tc : Thread Cert.DefinitionIdeal.nD Cert.DefinitionIdeal.τ).loc Cert.DefinitionIdeal.main_arg9) = m ((c.tc : Thread Cert.KernelIdeal.nD Cert.KernelIdeal.τ).loc Cert.KernelIdeal.main_arg9)
      ∧ m' ((c.tc : Thread Cert.DefinitionIdeal.nD Cert.DefinitionIdeal.τ).loc Cert.DefinitionIdeal.main_arg10) = m ((c.tc : Thread Cert.KernelIdeal.nD Cert.KernelIdeal.τ).loc Cert.KernelIdeal.main_arg10)
      ∧ m' ((c.tc : Thread Cert.DefinitionIdeal.nD Cert.DefinitionIdeal.τ).loc Cert.DefinitionIdeal.main_arg11) = m ((c.tc : Thread Cert.KernelIdeal.nD Cert.KernelIdeal.τ).loc Cert.KernelIdeal.main_arg11)
      ∧ m' ((c.tc : Thread Cert.DefinitionIdeal.nD Cert.DefinitionIdeal.τ).loc Cert.DefinitionIdeal.main_arg12) = m ((c.tc : Thread Cert.KernelIdeal.nD Cert.KernelIdeal.τ).loc Cert.KernelIdeal.main_arg12)
      ∧ m' ((c.tc : Thread Cert.DefinitionIdeal.nD Cert.DefinitionIdeal.τ).loc Cert.DefinitionIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.DefinitionIdeal.defs (F := Ideal)) (onTc (τ := Cert.DefinitionIdeal.τ) (Cert.DefinitionIdeal.main (F := Ideal))) ⟨m', fun _ => 0, g'⟩ (fun r => ∀ c : Dev Cert.DefinitionIdeal.nD,
          r.2.mem ((c.tc : Thread Cert.DefinitionIdeal.nD Cert.DefinitionIdeal.τ).loc Cert.DefinitionIdeal.main_v79) = v0 c
          ∧ r.2.mem ((c.tc : Thread Cert.DefinitionIdeal.nD Cert.DefinitionIdeal.τ).loc Cert.DefinitionIdeal.main_arg0) = m' ((c.tc : Thread Cert.DefinitionIdeal.nD Cert.DefinitionIdeal.τ).loc Cert.DefinitionIdeal.main_arg0)
          ∧ r.2.mem ((c.tc : Thread Cert.DefinitionIdeal.nD Cert.DefinitionIdeal.τ).loc Cert.DefinitionIdeal.main_arg1) = m' ((c.tc : Thread Cert.DefinitionIdeal.nD Cert.DefinitionIdeal.τ).loc Cert.DefinitionIdeal.main_arg1)
          ∧ r.2.mem ((c.tc : Thread Cert.DefinitionIdeal.nD Cert.DefinitionIdeal.τ).loc Cert.DefinitionIdeal.main_arg2) = m' ((c.tc : Thread Cert.DefinitionIdeal.nD Cert.DefinitionIdeal.τ).loc Cert.DefinitionIdeal.main_arg2)
          ∧ r.2.mem ((c.tc : Thread Cert.DefinitionIdeal.nD Cert.DefinitionIdeal.τ).loc Cert.DefinitionIdeal.main_arg3) = m' ((c.tc : Thread Cert.DefinitionIdeal.nD Cert.DefinitionIdeal.τ).loc Cert.DefinitionIdeal.main_arg3)
          ∧ r.2.mem ((c.tc : Thread Cert.DefinitionIdeal.nD Cert.DefinitionIdeal.τ).loc Cert.DefinitionIdeal.main_arg4) = m' ((c.tc : Thread Cert.DefinitionIdeal.nD Cert.DefinitionIdeal.τ).loc Cert.DefinitionIdeal.main_arg4)
          ∧ r.2.mem ((c.tc : Thread Cert.DefinitionIdeal.nD Cert.DefinitionIdeal.τ).loc Cert.DefinitionIdeal.main_arg5) = m' ((c.tc : Thread Cert.DefinitionIdeal.nD Cert.DefinitionIdeal.τ).loc Cert.DefinitionIdeal.main_arg5)
          ∧ r.2.mem ((c.tc : Thread Cert.DefinitionIdeal.nD Cert.DefinitionIdeal.τ).loc Cert.DefinitionIdeal.main_arg6) = m' ((c.tc : Thread Cert.DefinitionIdeal.nD Cert.DefinitionIdeal.τ).loc Cert.DefinitionIdeal.main_arg6)
          ∧ r.2.mem ((c.tc : Thread Cert.DefinitionIdeal.nD Cert.DefinitionIdeal.τ).loc Cert.DefinitionIdeal.main_arg7) = m' ((c.tc : Thread Cert.DefinitionIdeal.nD Cert.DefinitionIdeal.τ).loc Cert.DefinitionIdeal.main_arg7)
          ∧ r.2.mem ((c.tc : Thread Cert.DefinitionIdeal.nD Cert.DefinitionIdeal.τ).loc Cert.DefinitionIdeal.main_arg8) = m' ((c.tc : Thread Cert.DefinitionIdeal.nD Cert.DefinitionIdeal.τ).loc Cert.DefinitionIdeal.main_arg8)
          ∧ r.2.mem ((c.tc : Thread Cert.DefinitionIdeal.nD Cert.DefinitionIdeal.τ).loc Cert.DefinitionIdeal.main_arg9) = m' ((c.tc : Thread Cert.DefinitionIdeal.nD Cert.DefinitionIdeal.τ).loc Cert.DefinitionIdeal.main_arg9)
          ∧ r.2.mem ((c.tc : Thread Cert.DefinitionIdeal.nD Cert.DefinitionIdeal.τ).loc Cert.DefinitionIdeal.main_arg10) = m' ((c.tc : Thread Cert.DefinitionIdeal.nD Cert.DefinitionIdeal.τ).loc Cert.DefinitionIdeal.main_arg10)
          ∧ r.2.mem ((c.tc : Thread Cert.DefinitionIdeal.nD Cert.DefinitionIdeal.τ).loc Cert.DefinitionIdeal.main_arg11) = m' ((c.tc : Thread Cert.DefinitionIdeal.nD Cert.DefinitionIdeal.τ).loc Cert.DefinitionIdeal.main_arg11)
          ∧ r.2.mem ((c.tc : Thread Cert.DefinitionIdeal.nD Cert.DefinitionIdeal.τ).loc Cert.DefinitionIdeal.main_arg12) = m' ((c.tc : Thread Cert.DefinitionIdeal.nD Cert.DefinitionIdeal.τ).loc Cert.DefinitionIdeal.main_arg12)
          ∧ r.2.mem ((c.tc : Thread Cert.DefinitionIdeal.nD Cert.DefinitionIdeal.τ).loc Cert.DefinitionIdeal.main_arg13) = m' ((c.tc : Thread Cert.DefinitionIdeal.nD Cert.DefinitionIdeal.τ).loc Cert.DefinitionIdeal.main_arg13))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)
      ∧ m' ((c.tc : Thread Cert.Reference.nD Cert.Reference.τ).loc Cert.Reference.main_arg6) = m ((c.tc : Thread Cert.Kernel.nD Cert.Kernel.τ).loc Cert.Kernel.main_arg6)
      ∧ m' ((c.tc : Thread Cert.Reference.nD Cert.Reference.τ).loc Cert.Reference.main_arg7) = m ((c.tc : Thread Cert.Kernel.nD Cert.Kernel.τ).loc Cert.Kernel.main_arg7)
      ∧ m' ((c.tc : Thread Cert.Reference.nD Cert.Reference.τ).loc Cert.Reference.main_arg8) = m ((c.tc : Thread Cert.Kernel.nD Cert.Kernel.τ).loc Cert.Kernel.main_arg8)
      ∧ m' ((c.tc : Thread Cert.Reference.nD Cert.Reference.τ).loc Cert.Reference.main_arg9) = m ((c.tc : Thread Cert.Kernel.nD Cert.Kernel.τ).loc Cert.Kernel.main_arg9)
      ∧ m' ((c.tc : Thread Cert.Reference.nD Cert.Reference.τ).loc Cert.Reference.main_arg10) = m ((c.tc : Thread Cert.Kernel.nD Cert.Kernel.τ).loc Cert.Kernel.main_arg10)
      ∧ m' ((c.tc : Thread Cert.Reference.nD Cert.Reference.τ).loc Cert.Reference.main_arg11) = m ((c.tc : Thread Cert.Kernel.nD Cert.Kernel.τ).loc Cert.Kernel.main_arg11)
      ∧ m' ((c.tc : Thread Cert.Reference.nD Cert.Reference.τ).loc Cert.Reference.main_arg12) = m ((c.tc : Thread Cert.Kernel.nD Cert.Kernel.τ).loc Cert.Kernel.main_arg12)
      ∧ m' ((c.tc : Thread Cert.Reference.nD Cert.Reference.τ).loc Cert.Reference.main_arg13) = m ((c.tc : Thread Cert.Kernel.nD Cert.Kernel.τ).loc Cert.Kernel.main_arg13)) →
    ∃ (v0 : (c : Dev Cert.Kernel.nD) → Buf (Elt Bits) ((c.tc : Thread Cert.Kernel.nD Cert.Kernel.τ).loc Cert.Kernel.main_v72)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v72) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6)
          ∧ r.2.mem ((c.tc : Thread Cert.Kernel.nD Cert.Kernel.τ).loc Cert.Kernel.main_arg7) = m ((c.tc : Thread Cert.Kernel.nD Cert.Kernel.τ).loc Cert.Kernel.main_arg7)
          ∧ r.2.mem ((c.tc : Thread Cert.Kernel.nD Cert.Kernel.τ).loc Cert.Kernel.main_arg8) = m ((c.tc : Thread Cert.Kernel.nD Cert.Kernel.τ).loc Cert.Kernel.main_arg8)
          ∧ r.2.mem ((c.tc : Thread Cert.Kernel.nD Cert.Kernel.τ).loc Cert.Kernel.main_arg9) = m ((c.tc : Thread Cert.Kernel.nD Cert.Kernel.τ).loc Cert.Kernel.main_arg9)
          ∧ r.2.mem ((c.tc : Thread Cert.Kernel.nD Cert.Kernel.τ).loc Cert.Kernel.main_arg10) = m ((c.tc : Thread Cert.Kernel.nD Cert.Kernel.τ).loc Cert.Kernel.main_arg10)
          ∧ r.2.mem ((c.tc : Thread Cert.Kernel.nD Cert.Kernel.τ).loc Cert.Kernel.main_arg11) = m ((c.tc : Thread Cert.Kernel.nD Cert.Kernel.τ).loc Cert.Kernel.main_arg11)
          ∧ r.2.mem ((c.tc : Thread Cert.Kernel.nD Cert.Kernel.τ).loc Cert.Kernel.main_arg12) = m ((c.tc : Thread Cert.Kernel.nD Cert.Kernel.τ).loc Cert.Kernel.main_arg12)
          ∧ r.2.mem ((c.tc : Thread Cert.Kernel.nD Cert.Kernel.τ).loc Cert.Kernel.main_arg13) = m ((c.tc : Thread Cert.Kernel.nD Cert.Kernel.τ).loc Cert.Kernel.main_arg13))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v73) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5)
          ∧ r.2.mem ((c.tc : Thread Cert.Reference.nD Cert.Reference.τ).loc Cert.Reference.main_arg6) = m' ((c.tc : Thread Cert.Reference.nD Cert.Reference.τ).loc Cert.Reference.main_arg6)
          ∧ r.2.mem ((c.tc : Thread Cert.Reference.nD Cert.Reference.τ).loc Cert.Reference.main_arg7) = m' ((c.tc : Thread Cert.Reference.nD Cert.Reference.τ).loc Cert.Reference.main_arg7)
          ∧ r.2.mem ((c.tc : Thread Cert.Reference.nD Cert.Reference.τ).loc Cert.Reference.main_arg8) = m' ((c.tc : Thread Cert.Reference.nD Cert.Reference.τ).loc Cert.Reference.main_arg8)
          ∧ r.2.mem ((c.tc : Thread Cert.Reference.nD Cert.Reference.τ).loc Cert.Reference.main_arg9) = m' ((c.tc : Thread Cert.Reference.nD Cert.Reference.τ).loc Cert.Reference.main_arg9)
          ∧ r.2.mem ((c.tc : Thread Cert.Reference.nD Cert.Reference.τ).loc Cert.Reference.main_arg10) = m' ((c.tc : Thread Cert.Reference.nD Cert.Reference.τ).loc Cert.Reference.main_arg10)
          ∧ r.2.mem ((c.tc : Thread Cert.Reference.nD Cert.Reference.τ).loc Cert.Reference.main_arg11) = m' ((c.tc : Thread Cert.Reference.nD Cert.Reference.τ).loc Cert.Reference.main_arg11)
          ∧ r.2.mem ((c.tc : Thread Cert.Reference.nD Cert.Reference.τ).loc Cert.Reference.main_arg12) = m' ((c.tc : Thread Cert.Reference.nD Cert.Reference.τ).loc Cert.Reference.main_arg12)
          ∧ r.2.mem ((c.tc : Thread Cert.Reference.nD Cert.Reference.τ).loc Cert.Reference.main_arg13) = m' ((c.tc : Thread Cert.Reference.nD Cert.Reference.τ).loc Cert.Reference.main_arg13))

def Claim : Prop :=
  ∃ (hKernel : Cert.Kernel.Facts) (hKernelIdeal : Cert.KernelIdeal.Facts) (hReferenceIdeal : Cert.ReferenceIdeal.Facts) (hDefinitionIdeal : Cert.DefinitionIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_DefinitionIdeal (hDefinitionIdeal := hDefinitionIdeal)
    ∧ quiescent_Reference (hReference := hReference)
    ∧ preserves_Kernel_KernelIdeal
    ∧ algebraic_KernelIdeal_ReferenceIdeal (hKernelIdeal := hKernelIdeal) (hReferenceIdeal := hReferenceIdeal)
    ∧ algebraic_KernelIdeal_DefinitionIdeal (hKernelIdeal := hKernelIdeal) (hDefinitionIdeal := hDefinitionIdeal)
    ∧ bitexact_Kernel_Reference (hKernel := hKernel) (hReference := hReference)
-- ==== Kernel.lean ====
abbrev S2x8x4096 : Shape := ⟨3, ![2, 8, 4096]⟩
abbrev S4096x64 : Shape := ⟨2, ![4096, 64]⟩
abbrev S64x64 : Shape := ⟨2, ![64, 64]⟩
abbrev S1x64 : Shape := ⟨2, ![1, 64]⟩
abbrev S64 : Shape := ⟨1, ![64]⟩
abbrev S64x1 : Shape := ⟨2, ![64, 1]⟩
abbrev S1 : Shape := ⟨1, ![1]⟩
abbrev S4096x256 : Shape := ⟨2, ![4096, 256]⟩
abbrev S256 : Shape := ⟨1, ![256]⟩
abbrev S_ : Shape := ⟨0, ![]⟩
abbrev S64x4096 : Shape := ⟨2, ![64, 4096]⟩
abbrev S4096x4096 : Shape := ⟨2, ![4096, 4096]⟩
abbrev S4096x20 : Shape := ⟨2, ![4096, 20]⟩
abbrev S4096 : Shape := ⟨1, ![4096]⟩
abbrev S4096x1 : Shape := ⟨2, ![4096, 1]⟩
abbrev S4096x20x1 : Shape := ⟨3, ![4096, 20, 1]⟩
abbrev S4096x20x2 : Shape := ⟨3, ![4096, 20, 2]⟩
abbrev S2x8x4096x1 : Shape := ⟨4, ![2, 8, 4096, 1]⟩
abbrev S1x1x1x64 : Shape := ⟨4, ![1, 1, 1, 64]⟩
abbrev S2x8x4096x64 : Shape := ⟨4, ![2, 8, 4096, 64]⟩
abbrev S2x8x64x4096 : Shape := ⟨4, ![2, 8, 64, 4096]⟩
abbrev S1x1x1x1 : Shape := ⟨4, ![1, 1, 1, 1]⟩
abbrev S2x8x256 : Shape := ⟨3, ![2, 8, 256]⟩

abbrev nBuf : Space → Nat
  | .hbm => 103
  | .vmem => 3
  | .smem => 0
  | _ => 0

abbrev bufTy : (tb : Table) → Fin (tcTables nBuf tb) → BufTy
  | .hbm, ⟨0, _⟩ => ⟨S2x8x4096, .f32⟩
  | .hbm, ⟨1, _⟩ => ⟨S2x8x4096, .f32⟩
  | .hbm, ⟨2, _⟩ => ⟨S4096x64, .f32⟩
  | .hbm, ⟨3, _⟩ => ⟨S4096x64, .f32⟩
  | .hbm, ⟨4, _⟩ => ⟨S64x64, .f32⟩
  | .hbm, ⟨5, _⟩ => ⟨S64x64, .f32⟩
  | .hbm, ⟨6, _⟩ => ⟨S1x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S4096x256, .f32⟩
  | .hbm, ⟨13, _⟩ => ⟨S256, .f32⟩
  | .hbm, ⟨14, _⟩ => ⟨S4096x64, .f32⟩
  | .hbm, ⟨15, _⟩ => ⟨S_, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S_, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S64x4096, .f32⟩
  | .hbm, ⟨25, _⟩ => ⟨S4096x4096, .f32⟩
  | .hbm, ⟨26, _⟩ => ⟨S64x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x20, .f32⟩
  | .hbm, ⟨37, _⟩ => ⟨S4096x20, .i32⟩
  | .hbm, ⟨38, _⟩ => ⟨S_, .f32⟩
  | .hbm, ⟨39, _⟩ => ⟨S4096x4096, .f32⟩
  | .hbm, ⟨40, _⟩ => ⟨S4096, .i32⟩
  | .hbm, ⟨41, _⟩ => ⟨S4096x1, .i32⟩
  | .hbm, ⟨42, _⟩ => ⟨S_, .i32⟩
  | .hbm, ⟨43, _⟩ => ⟨S4096x1, .i32⟩
  | .hbm, ⟨44, _⟩ => ⟨S4096x1, .i1⟩
  | .hbm, ⟨45, _⟩ => ⟨S_, .i32⟩
  | .hbm, ⟨46, _⟩ => ⟨S4096x1, .i32⟩
  | .hbm, ⟨47, _⟩ => ⟨S4096x1, .i32⟩
  | .hbm, ⟨48, _⟩ => ⟨S4096x1, .i32⟩
  | .hbm, ⟨49, _⟩ => ⟨S_, .i32⟩
  | .hbm, ⟨50, _⟩ => ⟨S4096x20, .i32⟩
  | .hbm, ⟨51, _⟩ => ⟨S4096x20, .i1⟩
  | .hbm, ⟨52, _⟩ => ⟨S_, .i32⟩
  | .hbm, ⟨53, _⟩ => ⟨S4096x20, .i32⟩
  | .hbm, ⟨54, _⟩ => ⟨S4096x20, .i32⟩
  | .hbm, ⟨55, _⟩ => ⟨S4096x20, .i32⟩
  | .hbm, ⟨56, _⟩ => ⟨S4096x20, .i32⟩
  | .hbm, ⟨57, _⟩ => ⟨S4096x20x1, .i32⟩
  | .hbm, ⟨58, _⟩ => ⟨S4096x20x1, .i32⟩
  | .hbm, ⟨59, _⟩ => ⟨S4096x20x2, .i32⟩
  | .hbm, ⟨60, _⟩ => ⟨S_, .f32⟩
  | .hbm, ⟨61, _⟩ => ⟨S4096x20, .f32⟩
  | .hbm, ⟨62, _⟩ => ⟨S4096x4096, .f32⟩
  | .hbm, ⟨63, _⟩ => ⟨S4096x4096, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x4096, .f32⟩
  | .hbm, ⟨71, _⟩ => ⟨S4096x4096, .f32⟩
  | .hbm, ⟨72, _⟩ => ⟨S2x8x4096x1, .f32⟩
  | .hbm, ⟨73, _⟩ => ⟨S64, .f32⟩
  | .hbm, ⟨74, _⟩ => ⟨S1x1x1x64, .f32⟩
  | .hbm, ⟨75, _⟩ => ⟨S2x8x4096x64, .f32⟩
  | .hbm, ⟨76, _⟩ => ⟨S2x8x4096x64, .f32⟩
  | .hbm, ⟨77, _⟩ => ⟨S2x8x4096x64, .f32⟩
  | .hbm, ⟨78, _⟩ => ⟨S1x1x1x64, .f32⟩
  | .hbm, ⟨79, _⟩ => ⟨S2x8x4096x64, .f32⟩
  | .hbm, ⟨80, _⟩ => ⟨S2x8x4096x64, .f32⟩
  | .hbm, ⟨81, _⟩ => ⟨S2x8x4096x64, .f32⟩
  | .hbm, ⟨82, _⟩ => ⟨S2x8x64x4096, .f32⟩
  | .hbm, ⟨83, _⟩ => ⟨S2x8x4096x64, .f32⟩
  | .hbm, ⟨84, _⟩ => ⟨S2x8x4096x64, .f32⟩
  | .hbm, ⟨85, _⟩ => ⟨S1x1x1x64, .f32⟩
  | .hbm, ⟨86, _⟩ => ⟨S2x8x4096x64, .f32⟩
  | .hbm, ⟨87, _⟩ => ⟨S2x8x4096x64, .f32⟩
  | .hbm, ⟨88, _⟩ => ⟨S2x8x4096x1, .f32⟩
  | .hbm, ⟨89, _⟩ => ⟨S1x1x1x1, .f32⟩
  | .hbm, ⟨90, _⟩ => ⟨S2x8x4096x1, .f32⟩
  | .hbm, ⟨91, _⟩ => ⟨S2x8x4096x1, .f32⟩
  | .hbm, ⟨92, _⟩ => ⟨S2x8x4096x1, .f32⟩
  | .hbm, ⟨93, _⟩ => ⟨S2x8x4096, .f32⟩
  | .hbm, ⟨94, _⟩ => ⟨S2x8x4096, .f32⟩
  | .hbm, ⟨95, _⟩ => ⟨S_, .f32⟩
  | .hbm, ⟨96, _⟩ => ⟨S2x8x4096, .f32⟩
  | .hbm, ⟨97, _⟩ => ⟨S2x8x4096, .f32⟩
  | .hbm, ⟨98, _⟩ => ⟨S2x8x4096, .f32⟩
  | .hbm, ⟨99, _⟩ => ⟨S2x8x4096, .f32⟩
  | .hbm, ⟨100, _⟩ => ⟨S2x8x256, .f32⟩
  | .hbm, ⟨101, _⟩ => ⟨S2x8x256, .f32⟩
  | .hbm, ⟨102, _⟩ => ⟨S2x8x256, .f32⟩
  | .local _ .vmem, ⟨0, _⟩ => ⟨S2x8x256, .f32⟩
  | .local _ .vmem, ⟨1, _⟩ => ⟨S2x8x256, .f32⟩
  | .local _ .vmem, ⟨2, _⟩ => ⟨S2x8x256, .f32⟩
  | _, _ => ⟨S2x8x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call0_cst : Ref sig .tc := ⟨.hbm, 33, rfl⟩
abbrev main_call0_v0 : Ref sig .tc := ⟨.hbm, 34, rfl⟩
abbrev main_v16 : Ref sig .tc := ⟨.hbm, 35, rfl⟩
abbrev main_values : Ref sig .tc := ⟨.hbm, 36, rfl⟩
abbrev main_indices : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_v21 : Ref sig .tc := ⟨.hbm, 44, rfl⟩
abbrev main_c_3 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_9 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== DefinitionIdeal.lean ====
abbrev S2x8x4096 : Shape := ⟨3, ![2, 8, 4096]⟩
abbrev S4096x64 : Shape := ⟨2, ![4096, 64]⟩
abbrev S64x64 : Shape := ⟨2, ![64, 64]⟩
abbrev S1x64 : Shape := ⟨2, ![1, 64]⟩
abbrev S64 : Shape := ⟨1, ![64]⟩
abbrev S64x1 : Shape := ⟨2, ![64, 1]⟩
abbrev S1 : Shape := ⟨1, ![1]⟩
abbrev S4096x256 : Shape := ⟨2, ![4096, 256]⟩
abbrev S256 : Shape := ⟨1, ![256]⟩
abbrev S_ : Shape := ⟨0, ![]⟩
abbrev S64x4096 : Shape := ⟨2, ![64, 4096]⟩
abbrev S4096x4096 : Shape := ⟨2, ![4096, 4096]⟩
abbrev S4096 : Shape := ⟨1, ![4096]⟩
abbrev S4096x4096x1 : Shape := ⟨3, ![4096, 4096, 1]⟩
abbrev S4096x1x4096 : Shape := ⟨3, ![4096, 1, 4096]⟩
abbrev S4096x4096x4096 : Shape := ⟨3, ![4096, 4096, 4096]⟩
abbrev S1x4096 : Shape := ⟨2, ![1, 4096]⟩
abbrev S4096x1 : Shape := ⟨2, ![4096, 1]⟩
abbrev S1x4096x4096 : Shape := ⟨3, ![1, 4096, 4096]⟩
abbrev S2x8x4096x1 : Shape := ⟨4, ![2, 8, 4096, 1]⟩
abbrev S1x1x1x64 : Shape := ⟨4, ![1, 1, 1, 64]⟩
abbrev S2x8x4096x64 : Shape := ⟨4, ![2, 8, 4096, 64]⟩
abbrev S4096x2x8x64 : Shape := ⟨4, ![4096, 2, 8, 64]⟩
abbrev S1x1x1 : Shape := ⟨3, ![1, 1, 1]⟩
abbrev S2x8x256 : Shape := ⟨3, ![2, 8, 256]⟩
abbrev S1x1x256 : Shape := ⟨3, ![1, 1, 256]⟩

abbrev nBuf : Space → Nat
  | .hbm => 107
  | .vmem => 0
  | .smem => 0
  | _ => 0

abbrev bufTy : (tb : Table) → Fin (tcTables nBuf tb) → BufTy
  | .hbm, ⟨0, _⟩ => ⟨S2x8x4096, .f32⟩
  | .hbm, ⟨1, _⟩ => ⟨S2x8x4096, .f32⟩
  | .hbm, ⟨2, _⟩ => ⟨S4096x64, .f32⟩
  | .hbm, ⟨3, _⟩ => ⟨S4096x64, .f32⟩
  | .hbm, ⟨4, _⟩ => ⟨S64x64, .f32⟩
  | .hbm, ⟨5, _⟩ => ⟨S64x64, .f32⟩
  | .hbm, ⟨6, _⟩ => ⟨S1x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S4096x256, .f32⟩
  | .hbm, ⟨13, _⟩ => ⟨S256, .f32⟩
  | .hbm, ⟨14, _⟩ => ⟨S4096x64, .f32⟩
  | .hbm, ⟨15, _⟩ => ⟨S_, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S_, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S64x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096, .i32⟩
  | .hbm, ⟨36, _⟩ => ⟨S4096x4096x1, .f32⟩
  | .hbm, ⟨37, _⟩ => ⟨S4096x1x4096, .f32⟩
  | .hbm, ⟨38, _⟩ => ⟨S4096x4096x4096, .f32⟩
  | .hbm, ⟨39, _⟩ => ⟨S4096x4096x4096, .f32⟩
  | .hbm, ⟨40, _⟩ => ⟨S4096x4096x4096, .i1⟩
  | .hbm, ⟨41, _⟩ => ⟨S4096x4096x4096, .f32⟩
  | .hbm, ⟨42, _⟩ => ⟨S4096x4096x4096, .f32⟩
  | .hbm, ⟨43, _⟩ => ⟨S4096x4096x4096, .i1⟩
  | .hbm, ⟨44, _⟩ => ⟨S1x4096, .i32⟩
  | .hbm, ⟨45, _⟩ => ⟨S4096x1, .i32⟩
  | .hbm, ⟨46, _⟩ => ⟨S4096x4096, .i32⟩
  | .hbm, ⟨47, _⟩ => ⟨S4096x4096, .i32⟩
  | .hbm, ⟨48, _⟩ => ⟨S4096x4096, .i1⟩
  | .hbm, ⟨49, _⟩ => ⟨S1x4096x4096, .i1⟩
  | .hbm, ⟨50, _⟩ => ⟨S4096x4096x4096, .i1⟩
  | .hbm, ⟨51, _⟩ => ⟨S4096x4096x4096, .i1⟩
  | .hbm, ⟨52, _⟩ => ⟨S4096x4096x4096, .i1⟩
  | .hbm, ⟨53, _⟩ => ⟨S4096x4096x4096, .i32⟩
  | .hbm, ⟨54, _⟩ => ⟨S_, .i32⟩
  | .hbm, ⟨55, _⟩ => ⟨S4096x4096, .i32⟩
  | .hbm, ⟨56, _⟩ => ⟨S_, .i32⟩
  | .hbm, ⟨57, _⟩ => ⟨S4096x4096, .i32⟩
  | .hbm, ⟨58, _⟩ => ⟨S4096x4096, .i1⟩
  | .hbm, ⟨59, _⟩ => ⟨S_, .f32⟩
  | .hbm, ⟨60, _⟩ => ⟨S_, .f32⟩
  | .hbm, ⟨61, _⟩ => ⟨S4096x4096, .f32⟩
  | .hbm, ⟨62, _⟩ => ⟨S4096x4096, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S4096x4096, .f32⟩
  | .hbm, ⟨70, _⟩ => ⟨S4096x4096, .f32⟩
  | .hbm, ⟨71, _⟩ => ⟨S2x8x4096x1, .f32⟩
  | .hbm, ⟨72, _⟩ => ⟨S64, .f32⟩
  | .hbm, ⟨73, _⟩ => ⟨S1x1x1x64, .f32⟩
  | .hbm, ⟨74, _⟩ => ⟨S2x8x4096x64, .f32⟩
  | .hbm, ⟨75, _⟩ => ⟨S2x8x4096x64, .f32⟩
  | .hbm, ⟨76, _⟩ => ⟨S2x8x4096x64, .f32⟩
  | .hbm, ⟨77, _⟩ => ⟨S1x1x1x64, .f32⟩
  | .hbm, ⟨78, _⟩ => ⟨S2x8x4096x64, .f32⟩
  | .hbm, ⟨79, _⟩ => ⟨S2x8x4096x64, .f32⟩
  | .hbm, ⟨80, _⟩ => ⟨S2x8x4096x64, .f32⟩
  | .hbm, ⟨81, _⟩ => ⟨S4096x2x8x64, .f32⟩
  | .hbm, ⟨82, _⟩ => ⟨S2x8x4096x64, .f32⟩
  | .hbm, ⟨83, _⟩ => ⟨S2x8x4096x64, .f32⟩
  | .hbm, ⟨84, _⟩ => ⟨S1x1x1x64, .f32⟩
  | .hbm, ⟨85, _⟩ => ⟨S2x8x4096x64, .f32⟩
  | .hbm, ⟨86, _⟩ => ⟨S2x8x4096x64, .f32⟩
  | .hbm, ⟨87, _⟩ => ⟨S64, .f32⟩
  | .hbm, ⟨88, _⟩ => ⟨S1x1x1x64, .f32⟩
  | .hbm, ⟨89, _⟩ => ⟨S2x8x4096x64, .f32⟩
  | .hbm, ⟨90, _⟩ => ⟨S2x8x4096x64, .f32⟩
  | .hbm, ⟨91, _⟩ => ⟨S_, .f32⟩
  | .hbm, ⟨92, _⟩ => ⟨S2x8x4096, .f32⟩
  | .hbm, ⟨93, _⟩ => ⟨S1x1x1, .f32⟩
  | .hbm, ⟨94, _⟩ => ⟨S2x8x4096, .f32⟩
  | .hbm, ⟨95, _⟩ => ⟨S2x8x4096, .f32⟩
  | .hbm, ⟨96, _⟩ => ⟨S2x8x4096, .f32⟩
  | .hbm, ⟨97, _⟩ => ⟨S2x8x4096, .f32⟩
  | .hbm, ⟨98, _⟩ => ⟨S_, .f32⟩
  | .hbm, ⟨99, _⟩ => ⟨S2x8x4096, .f32⟩
  | .hbm, ⟨100, _⟩ => ⟨S2x8x4096, .f32⟩
  | .hbm, ⟨101, _⟩ => ⟨S2x8x4096, .f32⟩
  | .hbm, ⟨102, _⟩ => ⟨S2x8x4096, .f32⟩
  | .hbm, ⟨103, _⟩ => ⟨S2x8x256, .f32⟩
  | .hbm, ⟨104, _⟩ => ⟨S1x1x256, .f32⟩
  | .hbm, ⟨105, _⟩ => ⟨S2x8x256, .f32⟩
  | .hbm, ⟨106, _⟩ => ⟨S2x8x256, .f32⟩
  | _, _ => ⟨S2x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c : Ref sig .tc := ⟨.hbm, 54, rfl⟩
abbrev main_v36 : Ref sig .tc := ⟨.hbm, 55, rfl⟩
abbrev main_c_3 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_call0_v0 : Ref sig .tc := ⟨.hbm, 60, rfl⟩
abbrev main_call0_v1 : Ref sig .tc := ⟨.hbm, 61, rfl⟩
abbrev main_v39 : Ref sig .tc := ⟨.hbm, 62, rfl⟩
abbrev main_cst_5 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_7 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_8 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]
-- ==== Reference.lean ====
abbrev S2x8x4096 : Shape := ⟨3, ![2, 8, 4096]⟩
abbrev S4096x64 : Shape := ⟨2, ![4096, 64]⟩
abbrev S64x64 : Shape := ⟨2, ![64, 64]⟩
abbrev S1x64 : Shape := ⟨2, ![1, 64]⟩
abbrev S64 : Shape := ⟨1, ![64]⟩
abbrev S64x1 : Shape := ⟨2, ![64, 1]⟩
abbrev S1 : Shape := ⟨1, ![1]⟩
abbrev S4096x256 : Shape := ⟨2, ![4096, 256]⟩
abbrev S256 : Shape := ⟨1, ![256]⟩
abbrev S_ : Shape := ⟨0, ![]⟩
abbrev S64x4096 : Shape := ⟨2, ![64, 4096]⟩
abbrev S4096x4096 : Shape := ⟨2, ![4096, 4096]⟩
abbrev S4096x20 : Shape := ⟨2, ![4096, 20]⟩
abbrev S4096 : Shape := ⟨1, ![4096]⟩
abbrev S4096x1 : Shape := ⟨2, ![4096, 1]⟩
abbrev S4096x20x1 : Shape := ⟨3, ![4096, 20, 1]⟩
abbrev S4096x20x2 : Shape := ⟨3, ![4096, 20, 2]⟩
abbrev S2x8x4096x1 : Shape := ⟨4, ![2, 8, 4096, 1]⟩
abbrev S1x1x1x64 : Shape := ⟨4, ![1, 1, 1, 64]⟩
abbrev S2x8x4096x64 : Shape := ⟨4, ![2, 8, 4096, 64]⟩
abbrev S2x8x64x4096 : Shape := ⟨4, ![2, 8, 64, 4096]⟩
abbrev S1x1x1x1 : Shape := ⟨4, ![1, 1, 1, 1]⟩
abbrev S2x8x256 : Shape := ⟨3, ![2, 8, 256]⟩
abbrev S1x1x256 : Shape := ⟨3, ![1, 1, 256]⟩

abbrev nBuf : Space → Nat
  | .hbm => 104
  | .vmem => 0
  | .smem => 0
  | _ => 0

abbrev bufTy : (tb : Table) → Fin (tcTables nBuf tb) → BufTy
  | .hbm, ⟨0, _⟩ => ⟨S2x8x4096, .f32⟩
  | .hbm, ⟨1, _⟩ => ⟨S2x8x4096, .f32⟩
  | .hbm, ⟨2, _⟩ => ⟨S4096x64, .f32⟩
  | .hbm, ⟨3, _⟩ => ⟨S4096x64, .f32⟩
  | .hbm, ⟨4, _⟩ => ⟨S64x64, .f32⟩
  | .hbm, ⟨5, _⟩ => ⟨S64x64, .f32⟩
  | .hbm, ⟨6, _⟩ => ⟨S1x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S4096x256, .f32⟩
  | .hbm, ⟨13, _⟩ => ⟨S256, .f32⟩
  | .hbm, ⟨14, _⟩ => ⟨S4096x64, .f32⟩
  | .hbm, ⟨15, _⟩ => ⟨S_, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S_, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S64x4096, .f32⟩
  | .hbm, ⟨25, _⟩ => ⟨S4096x4096, .f32⟩
  | .hbm, ⟨26, _⟩ => ⟨S64x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x20, .f32⟩
  | .hbm, ⟨37, _⟩ => ⟨S4096x20, .i32⟩
  | .hbm, ⟨38, _⟩ => ⟨S_, .f32⟩
  | .hbm, ⟨39, _⟩ => ⟨S4096x4096, .f32⟩
  | .hbm, ⟨40, _⟩ => ⟨S4096, .i32⟩
  | .hbm, ⟨41, _⟩ => ⟨S4096x1, .i32⟩
  | .hbm, ⟨42, _⟩ => ⟨S_, .i32⟩
  | .hbm, ⟨43, _⟩ => ⟨S4096x1, .i32⟩
  | .hbm, ⟨44, _⟩ => ⟨S4096x1, .i1⟩
  | .hbm, ⟨45, _⟩ => ⟨S_, .i32⟩
  | .hbm, ⟨46, _⟩ => ⟨S4096x1, .i32⟩
  | .hbm, ⟨47, _⟩ => ⟨S4096x1, .i32⟩
  | .hbm, ⟨48, _⟩ => ⟨S4096x1, .i32⟩
  | .hbm, ⟨49, _⟩ => ⟨S_, .i32⟩
  | .hbm, ⟨50, _⟩ => ⟨S4096x20, .i32⟩
  | .hbm, ⟨51, _⟩ => ⟨S4096x20, .i1⟩
  | .hbm, ⟨52, _⟩ => ⟨S_, .i32⟩
  | .hbm, ⟨53, _⟩ => ⟨S4096x20, .i32⟩
  | .hbm, ⟨54, _⟩ => ⟨S4096x20, .i32⟩
  | .hbm, ⟨55, _⟩ => ⟨S4096x20, .i32⟩
  | .hbm, ⟨56, _⟩ => ⟨S4096x20, .i32⟩
  | .hbm, ⟨57, _⟩ => ⟨S4096x20x1, .i32⟩
  | .hbm, ⟨58, _⟩ => ⟨S4096x20x1, .i32⟩
  | .hbm, ⟨59, _⟩ => ⟨S4096x20x2, .i32⟩
  | .hbm, ⟨60, _⟩ => ⟨S_, .f32⟩
  | .hbm, ⟨61, _⟩ => ⟨S4096x20, .f32⟩
  | .hbm, ⟨62, _⟩ => ⟨S4096x4096, .f32⟩
  | .hbm, ⟨63, _⟩ => ⟨S4096x4096, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x4096, .f32⟩
  | .hbm, ⟨71, _⟩ => ⟨S4096x4096, .f32⟩
  | .hbm, ⟨72, _⟩ => ⟨S2x8x4096x1, .f32⟩
  | .hbm, ⟨73, _⟩ => ⟨S64, .f32⟩
  | .hbm, ⟨74, _⟩ => ⟨S1x1x1x64, .f32⟩
  | .hbm, ⟨75, _⟩ => ⟨S2x8x4096x64, .f32⟩
  | .hbm, ⟨76, _⟩ => ⟨S2x8x4096x64, .f32⟩
  | .hbm, ⟨77, _⟩ => ⟨S2x8x4096x64, .f32⟩
  | .hbm, ⟨78, _⟩ => ⟨S1x1x1x64, .f32⟩
  | .hbm, ⟨79, _⟩ => ⟨S2x8x4096x64, .f32⟩
  | .hbm, ⟨80, _⟩ => ⟨S2x8x4096x64, .f32⟩
  | .hbm, ⟨81, _⟩ => ⟨S2x8x4096x64, .f32⟩
  | .hbm, ⟨82, _⟩ => ⟨S2x8x64x4096, .f32⟩
  | .hbm, ⟨83, _⟩ => ⟨S2x8x4096x64, .f32⟩
  | .hbm, ⟨84, _⟩ => ⟨S2x8x4096x64, .f32⟩
  | .hbm, ⟨85, _⟩ => ⟨S1x1x1x64, .f32⟩
  | .hbm, ⟨86, _⟩ => ⟨S2x8x4096x64, .f32⟩
  | .hbm, ⟨87, _⟩ => ⟨S2x8x4096x64, .f32⟩
  | .hbm, ⟨88, _⟩ => ⟨S2x8x4096x1, .f32⟩
  | .hbm, ⟨89, _⟩ => ⟨S1x1x1x1, .f32⟩
  | .hbm, ⟨90, _⟩ => ⟨S2x8x4096x1, .f32⟩
  | .hbm, ⟨91, _⟩ => ⟨S2x8x4096x1, .f32⟩
  | .hbm, ⟨92, _⟩ => ⟨S2x8x4096x1, .f32⟩
  | .hbm, ⟨93, _⟩ => ⟨S2x8x4096, .f32⟩
  | .hbm, ⟨94, _⟩ => ⟨S2x8x4096, .f32⟩
  | .hbm, ⟨95, _⟩ => ⟨S_, .f32⟩
  | .hbm, ⟨96, _⟩ => ⟨S2x8x4096, .f32⟩
  | .hbm, ⟨97, _⟩ => ⟨S2x8x4096, .f32⟩
  | .hbm, ⟨98, _⟩ => ⟨S2x8x4096, .f32⟩
  | .hbm, ⟨99, _⟩ => ⟨S2x8x4096, .f32⟩
  | .hbm, ⟨100, _⟩ => ⟨S2x8x256, .f32⟩
  | .hbm, ⟨101, _⟩ => ⟨S1x1x256, .f32⟩
  | .hbm, ⟨102, _⟩ => ⟨S2x8x256, .f32⟩
  | .hbm, ⟨103, _⟩ => ⟨S2x8x256, .f32⟩
  | _, _ => ⟨S2x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call0_cst : Ref sig .tc := ⟨.hbm, 33, rfl⟩
abbrev main_call0_v0 : Ref sig .tc := ⟨.hbm, 34, rfl⟩
abbrev main_v16 : Ref sig .tc := ⟨.hbm, 35, rfl⟩
abbrev main_values : Ref sig .tc := ⟨.hbm, 36, rfl⟩
abbrev main_indices : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_v21 : Ref sig .tc := ⟨.hbm, 44, rfl⟩
abbrev main_c_3 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_9 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]
-- ==== Proof.KernelValue.lean ====
/- What the kernel's result array holds after its run: the sum of the two arrays its host code hands the
   Pallas call, index by index. -/
module

public import proofs.«01_k».proof.Proof.Gen.KernelIdeal.Value
public import Idealize.ShloMosaic.Lib.StableHlo.Run

@[expose] public section

noncomputable section

namespace Cert.KernelIdeal.BiasAdd

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-- The sum of the Pallas call's two operands, as device `c` has them when the call starts. -/
abbrev sum (c : Dev nD) : Buf (Elt F) ((c : Thread nD τ).loc main_v72) :=
  addf (s := S2x8x256) (V m c main_v70) (V m c main_v71)

/-- The offsets of the blocks are all zero. -/
theorem zeros : (![0, 0, 0] : Fin 3 → Nat) = fun _ => 0 := funext fun a => by fin_cases a <;> rfl

/-- The one grid point writes back the sum of the operands: both blocks are the whole arrays. -/
theorem flushed (c : Dev nD) (t : Fin cfg0.N) :
    (dats m 0 c).flushed 2 t = (win0_2.blk t).view.read (Elt F) (sum m c) := by
  rw [Value.flushed2]
  unfold out0_2
  rw [View.canon_unit_zero zeros, View.ld_unit_zero zeros, View.ld_unit_zero zeros]
  rw [Value.lay2_0_eq]
  generalize hA : V m c main_v70 = A
  generalize hB : V m c main_v71 = B
  have e0 : iblk m c 0 t = (win0_0.blk t).view.read (Elt F) A := by subst hA; rfl
  have e1 : iblk m c 1 t = (win0_1.blk t).view.read (Elt F) B := by subst hB; rfl
  rw [e0, e1, shapeCast_self, shapeCast_self]
  show _ = (win0_2.blk t).view.read (Elt F) (addf (s := S2x8x256) (V m c main_v70) (V m c main_v71))
  rw [hA, hB]
  clear e0 e1 hA hB
  rfl

/-- Every index of the result is in the one point's block, which is the whole array. -/
theorem covered (i : S2x8x256.Idx) :
    ∃ t : Fin cfg0.N, (cfg0.win 2).flush t = true ∧ i ∈ ((cfg0.win 2).blk t).view.set := by
  have hN : cfg0.N = 1 := N_0
  refine ⟨⟨0, by omega⟩, flush0_2 _, ?_⟩
  generalize (⟨0, by omega⟩ : Fin cfg0.N) = t
  show i ∈ ((View.whole main_v72).slice (win0_2.rect t)).set
  rw [View.set_slice_whole, Rect.mem_set_unit]
  intro a
  have hi : (i a : Nat) < S2x8x256.size a := (i a).isLt
  have h0 : ∀ a : Fin S2x8x256.rank, win0_2.index t a * win0_2.size a = 0
      ∧ win0_2.xsize (grid0.coords t) a = S2x8x256.size a := by
    rcases fin_N0 t with rfl
    decide +kernel
  show win0_2.index t a * win0_2.size a ≤ (i a : Nat)
    ∧ (i a : Nat) < win0_2.index t a * win0_2.size a + win0_2.xsize (grid0.coords t) a
  rw [(h0 a).1, (h0 a).2]
  exact ⟨Nat.zero_le _, by omega⟩

/-- After the run the result array is the sum of the call's operands. -/
theorem final (c : Dev nD) : (dats m 0 c).arrAt 2 cfg0.N = sum m c :=
  (dats m 0 c).arrAt_eq_of_cover 2 (sum m c) (fun t _ => flushed m c t) covered

end Cert.KernelIdeal.BiasAdd

end
-- ==== Proof.Model.lean ====
/- The host code of the kernel as functions of arrays, one for each step of the problem: the scores of the
   learned graph, the entries kept in each row, the normalised adjacency, the node features, the graph
   convolution with the compressor, the blend with the truth, and the latent product. -/
module

public import proofs.«01_k».proof.Proof.Gen.KernelIdeal

@[expose] public section

noncomputable section

namespace Cert.Model

open Cert.KernelIdeal Cert.KernelIdeal.Gen Idealize.ShloMosaic

variable {F : FTy → Type} [FloatOps F]

/-- One side of the graph constructor: `tanh (3 · (emb @ lin))`. -/
def nodeVec (emb : FVec F S4096x64 .f32) (lin : FVec F S64x64 .f32) : FVec F S4096x64 .f32 :=
  Host.tanh (mulf (broadcastInDim S4096x64 ![] bcast_S_S4096x64 (constant S_ .f32 0x40400000#32))
    (Host.dotGeneral dot_S4096x64_S64x64_S4096x64_1_0_0_1_n_n none emb lin))

/-- `p @ qᵀ`, all pairs of rows. -/
def cross (p q : FVec F S4096x64 .f32) : FVec F S4096x4096 .f32 :=
  Host.dotGeneral dot_S4096x64_S64x4096_S4096x4096_1_0_0_1_n_n none p
    (transpose S64x4096 [1, 0] q transposes_S4096x64_S64x4096_1_0)

/-- `relu (tanh (3 · d))`. -/
def squash (d : FVec F S4096x4096 .f32) : FVec F S4096x4096 .f32 :=
  maximumf (Host.tanh (mulf (broadcastInDim S4096x4096 ![] bcast_S_S4096x4096 (constant S_ .f32 0x40400000#32)) d))
    (broadcastInDim S4096x4096 ![] bcast_S_S4096x4096 (constant S_ .f32 0x00000000#32))

/-- The scores of the graph: `relu (tanh (3 · (p @ qᵀ - q @ pᵀ)))`. -/
def scores (p q : FVec F S4096x64 .f32) : FVec F S4096x4096 .f32 :=
  squash (subf (cross p q) (cross q p))

/-- The positions of the twenty greatest entries of each row. -/
def topIdx (a : FVec F S4096x4096 .f32) : IVec S4096x20 32 :=
  (Host.topK S4096x20 1 (FloatOps.cmpfTotal .gt) a sliceFits_S4096x4096_S4096x20).2

/-- The row numbers as a column, a negative one counted from the end. -/
def rowIdx : IVec S4096x1 32 :=
  select (cmpi .slt (broadcastInDim S4096x1 ![0] bcast_S4096_S4096x1_0 (iotaInDim S4096 32 0))
      (broadcastInDim S4096x1 ![] bcast_S_S4096x1 (constantI S_ 32 0#32)))
    (addi (broadcastInDim S4096x1 ![0] bcast_S4096_S4096x1_0 (iotaInDim S4096 32 0))
      (broadcastInDim S4096x1 ![] bcast_S_S4096x1 (constantI S_ 32 4096#32)))
    (broadcastInDim S4096x1 ![0] bcast_S4096_S4096x1_0 (iotaInDim S4096 32 0))

/-- Column numbers, a negative one counted from the end. -/
def wrapIdx (k : IVec S4096x20 32) : IVec S4096x20 32 :=
  select (cmpi .slt k (broadcastInDim S4096x20 ![] bcast_S_S4096x20 (constantI S_ 32 0#32)))
    (addi k (broadcastInDim S4096x20 ![] bcast_S_S4096x20 (constantI S_ 32 4096#32))) k

/-- Two index arrays side by side, as the coordinates of a scatter. -/
def pair (u v : IVec S4096x20x1 32) : IVec S4096x20x2 32 :=
  concatenate S4096x20x2 2 [⟨S4096x20x1, u⟩, ⟨S4096x20x1, v⟩] concatenates_S4096x20x1_S4096x20x1_S4096x20x2_d2

/-- The coordinates of the entries kept. -/
def keepAt (k : IVec S4096x20 32) : IVec S4096x20x2 32 :=
  pair
    (broadcastInDim S4096x20x1 ![0, 1] bcast_S4096x20_S4096x20x1_0_1
      (broadcastInDim S4096x20 ![0, 1] bcast_S4096x1_S4096x20_0_1 rowIdx))
    (broadcastInDim S4096x20x1 ![0, 1] bcast_S4096x20_S4096x20x1_0_1 (wrapIdx k))

/-- The mask of the entries kept: ones scattered into zeros. -/
def keepMask (k : IVec S4096x20 32) : FVec F S4096x4096 .f32 :=
  Host.scatter scatter_S4096x4096_S4096x20x2_S4096x20_n_01_01_2 (fun _ b => b)
    (broadcastInDim S4096x4096 ![] bcast_S_S4096x4096 (constant S_ .f32 0x00000000#32)) (keepAt k)
    (broadcastInDim S4096x20 ![] bcast_S_S4096x20 (constant S_ .f32 0x3F800000#32))

/-- Each row divided by its sum and a millionth. -/
def normalise (s : FVec F S4096x4096 .f32) : FVec F S4096x4096 .f32 :=
  Host.divf s (broadcastInDim S4096x4096 ![0, 1] bcast_S4096x1_S4096x4096_0_1
    (addf (broadcastInDim S4096x1 ![0] bcast_S4096_S4096x1_0
        (Host.reduceAdd s (constant S_ .f32 0x00000000#32) reducesTo_S4096x4096_S4096_d1 h_S_))
      (broadcastInDim S4096x1 ![] bcast_S_S4096x1 (constant S_ .f32 0x358637BD#32))))

/-- The adjacency: the scores kept, normalised by rows. -/
def adjacency (a : FVec F S4096x4096 .f32) : FVec F S4096x4096 .f32 :=
  normalise (mulf a (keepMask (topIdx a)))

/-- A vector of 64 along the last axis of the features. -/
def along (b : FVec F S64 .f32) : FVec F S2x8x4096x64 .f32 :=
  broadcastInDim S2x8x4096x64 ![0, 1, 2, 3] bcast_S1x1x1x64_S2x8x4096x64_0_1_2_3
    (broadcastInDim S1x1x1x64 ![3] bcast_S64_S1x1x1x64_3 b)

/-- The node features: `tanh (truth · W_d + b_d)`. -/
def features (truth : FVec F S2x8x4096 .f32) (wd : FVec F S1x64 .f32) (bd : FVec F S64 .f32) :
    FVec F S2x8x4096x64 .f32 :=
  Host.tanh (addf (mulf
      (broadcastInDim S2x8x4096x64 ![0, 1, 2, 3] bcast_S2x8x4096x1_S2x8x4096x64_0_1_2_3
        (broadcastInDim S2x8x4096x1 ![0, 1, 2] bcast_S2x8x4096_S2x8x4096x1_0_1_2 truth))
      (along (shapeCast S64 wd shapeCasts_S1x64_S64)))
    (along bd))

/-- The features summed over the graph's neighbours. -/
def aggregate (adj : FVec F S4096x4096 .f32) (x : FVec F S2x8x4096x64 .f32) : FVec F S2x8x4096x64 .f32 :=
  transpose S2x8x4096x64 [0, 1, 3, 2]
    (Host.dotGeneral dot_S2x8x4096x64_S4096x4096_S2x8x64x4096_2_1_013_0_n_n none x adj)
    transposes_S2x8x64x4096_S2x8x4096x64_0_1_3_2

/-- The convolution's linear map: `h @ W_g + b_g`. -/
def gcnLinear (h : FVec F S2x8x4096x64 .f32) (wg : FVec F S64x64 .f32) (bg : FVec F S64 .f32) :
    FVec F S2x8x4096x64 .f32 :=
  addf (Host.dotGeneral dot_S2x8x4096x64_S64x64_S2x8x4096x64_3_0_012_1_n_n none h wg) (along bg)

/-- The compressor: `tanh (h @ W_c + b_c)`, one number per node. -/
def compress (h : FVec F S2x8x4096x64 .f32) (wc : FVec F S64x1 .f32) (bc : FVec F S1 .f32) :
    FVec F S2x8x4096 .f32 :=
  shapeCast S2x8x4096 (Host.tanh (addf
      (Host.dotGeneral dot_S2x8x4096x64_S64x1_S2x8x4096x1_3_0_012_1_n_n none h wc)
      (broadcastInDim S2x8x4096x1 ![0, 1, 2, 3] bcast_S1x1x1x1_S2x8x4096x1_0_1_2_3
        (broadcastInDim S1x1x1x1 ![3] bcast_S1_S1x1x1x1_3 bc))))
    shapeCasts_S2x8x4096x1_S2x8x4096

/-- The blend: `truth · mask + x · (1 - mask)`. -/
def blend (truth mask x : FVec F S2x8x4096 .f32) : FVec F S2x8x4096 .f32 :=
  addf (mulf truth mask)
    (mulf x (subf (broadcastInDim S2x8x4096 ![] bcast_S_S2x8x4096 (constant S_ .f32 0x3F800000#32)) mask))

/-- The latent product `x @ W_m`. -/
def latent (x : FVec F S2x8x4096 .f32) (wm : FVec F S4096x256 .f32) : FVec F S2x8x256 .f32 :=
  Host.dotGeneral dot_S2x8x4096_S4096x256_S2x8x256_2_0_01_1_n_n none x wm

/-- The bias at every row of the result. -/
def biasRow (b : FVec F S256 .f32) : FVec F S2x8x256 .f32 :=
  broadcastInDim S2x8x256 ![2] bcast_S256_S2x8x256_2 b

/-- The latent product of all the steps, before the bias. -/
def product (truth mask : FVec F S2x8x4096 .f32) (emb1 emb2 : FVec F S4096x64 .f32)
    (lin1 lin2 : FVec F S64x64 .f32) (wd : FVec F S1x64 .f32) (bd : FVec F S64 .f32)
    (wg : FVec F S64x64 .f32) (bg : FVec F S64 .f32) (wc : FVec F S64x1 .f32) (bc : FVec F S1 .f32)
    (wm : FVec F S4096x256 .f32) : FVec F S2x8x256 .f32 :=
  latent (blend truth mask
    (compress (gcnLinear
      (aggregate (adjacency (scores (nodeVec emb1 lin1) (nodeVec emb2 lin2))) (features truth wd bd)) wg bg) wc bc)) wm

/-- The whole function: the latent product and the bias. -/
def result (truth mask : FVec F S2x8x4096 .f32) (emb1 emb2 : FVec F S4096x64 .f32)
    (lin1 lin2 : FVec F S64x64 .f32) (wd : FVec F S1x64 .f32) (bd : FVec F S64 .f32)
    (wg : FVec F S64x64 .f32) (bg : FVec F S64 .f32) (wc : FVec F S64x1 .f32) (bc : FVec F S1 .f32)
    (wm : FVec F S4096x256 .f32) (bm : FVec F S256 .f32) : FVec F S2x8x256 .f32 :=
  addf (product truth mask emb1 emb2 lin1 lin2 wd bd wg bg wc bc wm) (biasRow bm)

end Cert.Model

end
-- ==== Proof.HostTerm.lean ====
/- The Pallas call's two operands as functions of the arguments: what the kernel's host code makes of them. -/
module

public import proofs.«01_k».proof.Proof.KernelValue
public import proofs.«01_k».proof.Proof.Model

@[expose] public section

noncomputable section

namespace Cert.KernelIdeal.BiasAdd

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The printed pairing of two index arrays is the model's `pair`. -/
theorem pair_eq : (fun (u v : IVec S4096x20x1 32) =>
    (concatenate S4096x20x2 2 [⟨S4096x20x1, u⟩, ⟨S4096x20x1, v⟩] concatenates_S4096x20x1_S4096x20x1_S4096x20x2_d2
      : IVec S4096x20x2 32)) = Model.pair := rfl

set_option maxRecDepth 8192 in
set_option maxHeartbeats 4000000 in
/-- The first operand is the latent product of the arguments. -/
theorem operand_product (c : Dev nD) :
    V m c main_v70 = Model.product (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7))
      (m ((c : Thread nD τ).loc main_arg8)) (m ((c : Thread nD τ).loc main_arg9))
      (m ((c : Thread nD τ).loc main_arg10)) (m ((c : Thread nD τ).loc main_arg11))
      (m ((c : Thread nD τ).loc main_arg12)) := by
  simp only [V, hostOps0, hostOps0_1, hostOps0_2,
    List.flatten_cons, List.flatten_nil, List.append_nil, List.cons_append, List.nil_append,
    TRef.binary, TRef.nullary, TRef.unary, TRef.toBuf, TRef.ofBuf, cast_eq]
  simp only [pair_eq]
  after_results_simp
  rfl

set_option maxRecDepth 8192 in
set_option maxHeartbeats 4000000 in
/-- The second operand is the bias at every row. -/
theorem operand_bias (c : Dev nD) :
    V m c main_v71 = Model.biasRow (m ((c : Thread nD τ).loc main_arg13)) := by
  simp only [V, hostOps0, hostOps0_1, hostOps0_2,
    List.flatten_cons, List.flatten_nil, List.append_nil, List.cons_append, List.nil_append,
    TRef.binary, TRef.nullary, TRef.unary, TRef.toBuf, TRef.ofBuf, cast_eq]
  after_results_simp
  rfl

end Cert.KernelIdeal.BiasAdd

end
-- ==== Proof.RefTerm.lean ====
/- The reference's result as the function `Model.result` of its arguments. -/
module

public import proofs.«01_k».proof.Proof.Gen.ReferenceIdeal.Run
public import proofs.«01_k».proof.Proof.Model
public import Idealize.ShloMosaic.Lib.ValueIdx

@[expose] public section

noncomputable section

namespace Cert.RefTerm

open Cert.ReferenceIdeal Cert.ReferenceIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- A bias laid along the last axis in two steps is the bias laid in one. -/
theorem bias_two_steps (b : FVec F S256 .f32) :
    broadcastInDim S2x8x256 ![0, 1, 2] bcast_S1x1x256_S2x8x256_0_1_2
      (broadcastInDim S1x1x256 ![2] bcast_S256_S1x1x256_2 b) = Model.biasRow b := by
  funext i
  show b _ = b _
  refine congrArg b (funext fun a => ?_)
  fin_cases a
  rfl

set_option maxRecDepth 8192 in
set_option maxHeartbeats 4000000 in
/-- The reference's result array is the model's function of the arguments. -/
theorem result_eq (c : Dev nD) :
    Value.res_out0 m c = Model.result (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7))
      (m ((c : Thread nD τ).loc main_arg8)) (m ((c : Thread nD τ).loc main_arg9))
      (m ((c : Thread nD τ).loc main_arg10)) (m ((c : Thread nD τ).loc main_arg11))
      (m ((c : Thread nD τ).loc main_arg12)) (m ((c : Thread nD τ).loc main_arg13)) := by
  unfold Model.result
  rw [← bias_two_steps]
  show Value.res_main_v73 m c = _
  unfold Value.res_main_v73
  refine congrArg₂ addf ?_ rfl
  rfl

end Cert.RefTerm

end
-- ==== Proof.Definition.lean ====
/- The second reference's steps as functions of arrays, those in which it differs from the kernel's host code:
   the scores from one product, the rank of each entry in its row, the entries kept by rank, the sum over
   neighbours with the adjacency first, and the compressor as a sum. -/
module

public import proofs.«01_k».proof.Proof.Gen.DefinitionIdeal.Run
public import proofs.«01_k».proof.Proof.Model

@[expose] public section

noncomputable section

namespace Cert.Definition

open Cert.DefinitionIdeal Cert.DefinitionIdeal.Gen Idealize.ShloMosaic Idealize.ShloMosaic.TcCoe Idealize.SL.Sem
open Idealize.ShloMosaic.StableHlo

variable {F : FTy → Type} [FloatOps F]

/-- The scores from one product `s = p @ qᵀ`: `relu (tanh (3 · (s - sᵀ)))`. -/
def scores (p q : FVec F S4096x64 .f32) : FVec F S4096x4096 .f32 :=
  Model.squash (subf (Model.cross p q)
    (transpose S4096x4096 [1, 0] (Model.cross p q) transposes_S4096x4096_S4096x4096_1_0))

/-- The other entry of a triple row, entry, other entry. -/
def other (a : FVec F S4096x4096 .f32) : FVec F S4096x4096x4096 .f32 :=
  broadcastInDim S4096x4096x4096 ![0, 1, 2] bcast_S4096x1x4096_S4096x4096x4096_0_1_2
    (broadcastInDim S4096x1x4096 ![0, 2] bcast_S4096x4096_S4096x1x4096_0_2 a)

/-- The entry itself, of the same triple. -/
def mine (a : FVec F S4096x4096 .f32) : FVec F S4096x4096x4096 .f32 :=
  broadcastInDim S4096x4096x4096 ![0, 1, 2] bcast_S4096x4096x1_S4096x4096x4096_0_1_2
    (broadcastInDim S4096x4096x1 ![0, 1] bcast_S4096x4096_S4096x4096x1_0_1 a)

/-- Whether the other entry's column is the lower. -/
def lower : IVec S4096x4096x4096 1 :=
  broadcastInDim S4096x4096x4096 ![0, 1, 2] bcast_S1x4096x4096_S4096x4096x4096_0_1_2
    (broadcastInDim S1x4096x4096 ![1, 2] bcast_S4096x4096_S1x4096x4096_1_2
      (cmpi .slt
        (broadcastInDim S4096x4096 ![0, 1] bcast_S1x4096_S4096x4096_0_1
          (broadcastInDim S1x4096 ![1] bcast_S4096_S1x4096_1 (iotaInDim S4096 32 0)))
        (broadcastInDim S4096x4096 ![0, 1] bcast_S4096x1_S4096x4096_0_1
          (broadcastInDim S4096x1 ![0] bcast_S4096_S4096x1_0 (iotaInDim S4096 32 0)))))

/-- Whether the other entry comes before the entry itself. -/
def before (a : FVec F S4096x4096 .f32) : IVec S4096x4096x4096 1 :=
  ori (cmpf .ogt (other a) (mine a)) (andi (cmpf .oeq (other a) (mine a)) lower)

/-- How many entries of its row come before an entry. -/
def rank (a : FVec F S4096x4096 .f32) : IVec S4096x4096 32 :=
  Host.reduce IntOp.addi (extui 32 (before a) natLt_1_32) (constantI S_ 32 0#32)
    reducesTo_S4096x4096x4096_S4096x4096_d2 h_S_

/-- The entries of rank below twenty, zero elsewhere. -/
def keep (a : FVec F S4096x4096 .f32) : FVec F S4096x4096 .f32 :=
  select (cmpi .slt (rank a) (broadcastInDim S4096x4096 ![] bcast_S_S4096x4096 (constantI S_ 32 20#32))) a
    (broadcastInDim S4096x4096 ![] bcast_S_S4096x4096 (id (constant S_ .f32 0x00000000#32)))

/-- The features summed over the graph's neighbours, the adjacency on the left. -/
def aggregate (adj : FVec F S4096x4096 .f32) (x : FVec F S2x8x4096x64 .f32) : FVec F S2x8x4096x64 .f32 :=
  transpose S2x8x4096x64 [1, 2, 0, 3]
    (Host.dotGeneral dot_S4096x4096_S2x8x4096x64_S4096x2x8x64_1_2_0_013_n_n none adj x)
    transposes_S4096x2x8x64_S2x8x4096x64_1_2_0_3

/-- The compressor as a sum: `tanh (Σ h · W_c + b_c)`. -/
def compress (h : FVec F S2x8x4096x64 .f32) (wc : FVec F S64x1 .f32) (bc : FVec F S1 .f32) :
    FVec F S2x8x4096 .f32 :=
  Host.tanh (addf
    (Host.reduceAdd (mulf h (Model.along (shapeCast S64 wc shapeCasts_S64x1_S64))) (constant S_ .f32 0x00000000#32)
      reducesTo_S2x8x4096x64_S2x8x4096_d3 h_S_)
    (broadcastInDim S2x8x4096 ![0, 1, 2] bcast_S1x1x1_S2x8x4096_0_1_2
      (broadcastInDim S1x1x1 ![2] bcast_S1_S1x1x1_2 bc)))

/-- The latent product of all the steps, before the bias. -/
def product (truth mask : FVec F S2x8x4096 .f32) (emb1 emb2 : FVec F S4096x64 .f32)
    (lin1 lin2 : FVec F S64x64 .f32) (wd : FVec F S1x64 .f32) (bd : FVec F S64 .f32)
    (wg : FVec F S64x64 .f32) (bg : FVec F S64 .f32) (wc : FVec F S64x1 .f32) (bc : FVec F S1 .f32)
    (wm : FVec F S4096x256 .f32) : FVec F S2x8x256 .f32 :=
  Model.latent (Model.blend truth mask
    (compress (Model.gcnLinear
      (aggregate (Model.normalise (keep (scores (Model.nodeVec emb1 lin1) (Model.nodeVec emb2 lin2))))
        (Model.features truth wd bd)) wg bg) wc bc)) wm

/-- The bias at every row of the result. -/
def biasRow (b : FVec F S256 .f32) : FVec F S2x8x256 .f32 :=
  broadcastInDim S2x8x256 ![0, 1, 2] bcast_S1x1x256_S2x8x256_0_1_2
    (broadcastInDim S1x1x256 ![2] bcast_S256_S1x1x256_2 b)

variable (m : (ℓ : Loc nD τ sig) → Buf (Elt F) ℓ)

set_option maxRecDepth 8192 in
set_option maxHeartbeats 4000000 in
/-- The second reference's result array is the composition of these steps. -/
theorem result_eq (c : Dev nD) :
    Value.res_out0 m c = addf (product (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7))
      (m ((c : Thread nD τ).loc main_arg8)) (m ((c : Thread nD τ).loc main_arg9))
      (m ((c : Thread nD τ).loc main_arg10)) (m ((c : Thread nD τ).loc main_arg11))
      (m ((c : Thread nD τ).loc main_arg12))) (biasRow (m ((c : Thread nD τ).loc main_arg13))) := by
  show Value.res_main_v79 m c = _
  unfold Value.res_main_v79
  refine congrArg₂ addf ?_ rfl
  rfl

end Cert.Definition

end
-- ==== Proof.Ranking.lean ====
/- A stable sort by a key, greatest first: it orders the positions by greater key and then by lower position,
   so a position is among the first `k` exactly when fewer than `k` positions come before it. -/
module

public import Idealize.ShloMosaic.Lib.SortFacts
public import Mathlib.Data.Finset.Card
public import Mathlib.Data.Fintype.Card
public import Mathlib.Order.Interval.Finset.Fin

@[expose] public section

namespace Cert.Ranking

open Idealize.ShloMosaic

section Insertion

variable {ι : Type} (before : ι → ι → Bool) (P : ι → ι → Prop)

/-- Inserting `a` keeps a list ordered by a transitive `P`, if `P` holds between `a` and each element in the
    order in which `before` puts the two. -/
theorem pairwise_insert (htrans : ∀ a b c, P a b → P b c → P a c) (a : ι) (l : List ι)
    (hlate : ∀ b ∈ l, before b a = true → P b a) (hearly : ∀ b ∈ l, before b a = false → P a b)
    (hl : l.Pairwise P) : (insertBefore before a l).Pairwise P := by
  induction l with
  | nil => exact List.pairwise_singleton _ _
  | cons b l ih =>
    obtain ⟨hb, hl⟩ := List.pairwise_cons.1 hl
    unfold insertBefore
    by_cases h : before b a = true
    · rw [if_pos h]
      refine List.pairwise_cons.2 ⟨fun c hc => ?_, ih (fun c hc => hlate c (List.mem_cons_of_mem _ hc))
        (fun c hc => hearly c (List.mem_cons_of_mem _ hc)) hl⟩
      rcases List.mem_cons.1 ((perm_insertBefore before a l).mem_iff.1 hc) with rfl | hc
      · exact hlate b List.mem_cons_self h
      · exact hb c hc
    · rw [if_neg h]
      have hab : P a b := hearly b List.mem_cons_self (by simpa using h)
      refine List.pairwise_cons.2 ⟨fun c hc => ?_, List.pairwise_cons.2 ⟨hb, hl⟩⟩
      rcases List.mem_cons.1 hc with rfl | hc
      · exact hab
      · exact htrans a b c hab (hb c hc)

/-- A stable sort's result is ordered by `P`, if `P` holds of any two elements in the order in which the
    sort puts them: the one `before` says, else the one they had. -/
theorem pairwise_sort (htrans : ∀ a b c, P a b → P b c → P a c) (hlate : ∀ a b, before b a = true → P b a)
    (l : List ι) (hearly : l.Pairwise fun a b => before b a = false → P a b) :
    (stableSort before l).Pairwise P := by
  induction l with
  | nil => exact List.Pairwise.nil
  | cons a l ih =>
    obtain ⟨ha, hl⟩ := List.pairwise_cons.1 hearly
    unfold stableSort
    exact pairwise_insert before P htrans a _ (fun b _ => hlate a b)
      (fun b hb => ha b ((perm_stableSort before l).mem_iff.1 hb)) (ih hl)

end Insertion

variable {n : ℕ} {α : Type} [LinearOrder α] (key : Fin n → α)

/-- Position `p` comes before position `q`: its key is greater, or the keys are equal and `p` is lower. -/
def Before (p q : Fin n) : Prop := key q < key p ∨ (key p = key q ∧ p < q)

/-- Whether a position comes before another is decided by comparing keys and positions. -/
instance (p q : Fin n) : Decidable (Before key p q) := inferInstanceAs (Decidable (_ ∨ _))

/-- The order `Before` is transitive. -/
theorem Before.trans {p q r : Fin n} (h : Before key p q) (h' : Before key q r) : Before key p r := by
  rcases h with h | ⟨h, hp⟩ <;> rcases h' with h' | ⟨h', hp'⟩
  · exact .inl (h'.trans h)
  · exact .inl (h' ▸ h)
  · exact .inl (h ▸ h')
  · exact .inr ⟨h.trans h', hp.trans hp'⟩

/-- No position comes before itself. -/
theorem Before.irrefl (p : Fin n) : ¬ Before key p p := fun h =>
  h.elim (lt_irrefl _) fun h => lt_irrefl _ h.2

/-- The sort by greater key puts an earlier place's position before a later place's. -/
theorem before_of_lt {i j : Fin n} (hij : i < j) :
    Before key (sortedFrom (fun p q => decide (key q < key p)) i)
      (sortedFrom (fun p q => decide (key q < key p)) j) := by
  have h : (sortPositions n fun p q => decide (key q < key p)).Pairwise (Before key) := by
    refine pairwise_sort (fun p q => decide (key q < key p)) (Before key) (fun _ _ _ => Before.trans key)
      (fun _ _ h => .inl (of_decide_eq_true h)) (List.finRange n) ?_
    refine (List.pairwise_lt_finRange n).imp fun {a b} hab h => ?_
    rcases lt_trichotomy (key a) (key b) with hk | hk | hk
    · exact absurd hk (of_decide_eq_false h)
    · exact .inr ⟨hk, hab⟩
    · exact .inl hk
  exact List.pairwise_iff_get.1 h _ _ hij

/-- Between two places the order of the sort is the order `Before`. -/
theorem before_iff_lt (i j : Fin n) :
    Before key (sortedFrom (fun p q => decide (key q < key p)) i)
      (sortedFrom (fun p q => decide (key q < key p)) j) ↔ i < j := by
  refine ⟨fun h => ?_, before_of_lt key⟩
  rcases lt_trichotomy i j with hij | rfl | hij
  · exact hij
  · exact absurd h (Before.irrefl key _)
  · exact absurd (h.trans key (before_of_lt key hij)) (Before.irrefl key _)

/-- As many positions come before the one at place `j` as there are places before `j`. -/
theorem card_before (j : Fin n) :
    (Finset.univ.filter fun q => Before key q (sortedFrom (fun p q => decide (key q < key p)) j)).card = j.val := by
  have e : (Finset.univ.filter fun q => Before key q (sortedFrom (fun p q => decide (key q < key p)) j))
      = (Finset.Iio j).map ⟨sortedFrom (fun p q => decide (key q < key p)), sortedFrom_injective _⟩ := by
    ext q
    obtain ⟨i, rfl⟩ := sortedFrom_surjective (fun p q => decide (key q < key p)) q
    simp only [Finset.mem_filter, Finset.mem_univ, true_and, before_iff_lt, Finset.mem_map, Finset.mem_Iio,
      Function.Embedding.coeFn_mk]
    exact ⟨fun h => ⟨i, h, rfl⟩, fun ⟨i', h, e⟩ => sortedFrom_injective _ e ▸ h⟩
  rw [e, Finset.card_map, Fin.card_Iio]

/-- A position is at one of the first `k` places exactly when fewer than `k` positions come before it. -/
theorem among_first_iff (p : Fin n) (k : ℕ) :
    (∃ j : Fin n, j.val < k ∧ sortedFrom (fun p q => decide (key q < key p)) j = p)
      ↔ (Finset.univ.filter fun q => Before key q p).card < k := by
  obtain ⟨j, rfl⟩ := sortedFrom_surjective (fun p q => decide (key q < key p)) p
  rw [card_before]
  exact ⟨fun ⟨i, hi, e⟩ => sortedFrom_injective _ e ▸ hi, fun h => ⟨j, h, rfl⟩⟩

end Cert.Ranking
-- ==== Proof.Counting.lean ====
/- The rank of an entry, counted with words, is the number of entries of its row that come before it; so the
   entries of rank below twenty are those the mask keeps. -/
module

public import proofs.«01_k».proof.Proof.Definition
public import proofs.«01_k».proof.Proof.Ranking
public import Idealize.ShloMosaic.Lib.Pointwise
public import Idealize.ShloMosaic.Lib.IndicatorCount

@[expose] public section

noncomputable section

namespace Cert.Counting

open Cert.DefinitionIdeal Cert.DefinitionIdeal.Gen Idealize.ShloMosaic

/-- A sum of bits along the last axis is the number of ones. -/
theorem count_last {A B C : ℕ} {s0 : Shape} (x : IVec (⟨3, ![A, B, C]⟩ : Shape) 1) (h32 : 1 < 32)
    (init : IVec s0 32) (hinit : ∀ i, init i = 0#32)
    (h : (⟨3, ![A, B, C]⟩ : Shape).ReducesTo [2] (⟨2, ![A, B]⟩ : Shape)) (h0 : 0 < s0.numel) (a : Fin A) (b : Fin B) :
    Host.reduce IntOp.addi (extui 32 x h32) init h h0 (ix2 a b)
      = BitVec.ofNat 32 (Finset.univ.filter fun c : Fin C => x (ix3 a b c) = 1#1).card := by
  rw [Host.reduce_eq_fold, hinit, Shape.ReducesTo.fold_fiber_r3_a2]
  exact IndicatorCount.fold_addi_setWidth_eq_card (fun c : Fin C => x (ix3 a b c)) Finset.univ

/-- The bit of a decision, or-ed. -/
theorem ofBool_or (p q : Bool) : BitVec.ofBool p ||| BitVec.ofBool q = BitVec.ofBool (p || q) := by
  cases p <;> cases q <;> rfl

/-- The bit of a decision, and-ed. -/
theorem ofBool_and (p q : Bool) : BitVec.ofBool p &&& BitVec.ofBool q = BitVec.ofBool (p && q) := by
  cases p <;> cases q <;> rfl

/-- A signed compare of two numbers below 2³¹ is their order. -/
theorem slt_ofNat (x y : ℕ) (hx : x < 2 ^ 31) (hy : y < 2 ^ 31) :
    IntOp.cmpi .slt (BitVec.ofNat 32 x) (BitVec.ofNat 32 y) = BitVec.ofBool (decide (x < y)) := by
  show BitVec.ofBool (BitVec.slt _ _) = _
  congr 1
  rw [BitVec.slt, BitVec.toInt_eq_toNat_of_lt (by rw [BitVec.toNat_ofNat]; omega),
    BitVec.toInt_eq_toNat_of_lt (by rw [BitVec.toNat_ofNat]; omega), BitVec.toNat_ofNat, BitVec.toNat_ofNat,
    Nat.mod_eq_of_lt (by omega), Nat.mod_eq_of_lt (by omega)]
  exact decide_eq_decide.2 Int.ofNat_lt

/-- The other entry of the triple `v, w, u` is that of row `v` and column `u`. -/
theorem other_apply (a : FVec Ideal S4096x4096 .f32) (v w u : Fin 4096) :
    Definition.other a (ix3 v w u) = a (ix2 v u) := by
  unfold Definition.other; pointwise

/-- The entry itself of the triple `v, w, u` is that of row `v` and column `w`. -/
theorem mine_apply (a : FVec Ideal S4096x4096 .f32) (v w u : Fin 4096) :
    Definition.mine a (ix3 v w u) = a (ix2 v w) := by
  unfold Definition.mine; pointwise

/-- The bit `lower` of the triple `v, w, u` says that column `u` is below column `w`. -/
theorem lower_apply (v w u : Fin 4096) :
    Definition.lower (ix3 v w u) = BitVec.ofBool (decide (u.val < w.val)) :=
  slt_ofNat u.val w.val (by omega) (by omega)

/-- The bit `before` says that the other entry comes before the entry itself. -/
theorem before_apply (a : FVec Ideal S4096x4096 .f32) (v w u : Fin 4096) :
    Definition.before a (ix3 v w u) = 1#1 ↔ Ranking.Before (fun u => (a (ix2 v u) : EReal)) u w := by
  have e : Definition.before a (ix3 v w u)
      = BitVec.ofBool (decide ((a (ix2 v w) : EReal) < a (ix2 v u)))
        ||| (BitVec.ofBool (decide ((a (ix2 v u) : EReal) = a (ix2 v w))) &&& BitVec.ofBool (decide (u.val < w.val))) := by
    rw [← lower_apply v w u, ← other_apply a v w u, ← mine_apply a v w u]
    rfl
  rw [e, ofBool_and, ofBool_or]
  unfold Ranking.Before
  by_cases h1 : (a (ix2 v w) : EReal) < a (ix2 v u) <;> by_cases h2 : (a (ix2 v u) : EReal) = a (ix2 v w) <;>
    by_cases h3 : u.val < w.val <;> simp [h1, h2, h3, Fin.lt_def]

/-- The entries of rank below twenty are those before which fewer than twenty entries of the row come. -/
theorem keep_apply (a : FVec Ideal S4096x4096 .f32) (v w : Fin 4096) :
    (Definition.keep a (ix2 v w) : EReal)
      = if (Finset.univ.filter fun u : Fin 4096 => Ranking.Before (fun u => (a (ix2 v u) : EReal)) u w).card < 20
        then a (ix2 v w) else 0 := by
  have hr : Definition.rank a (ix2 v w) = BitVec.ofNat 32
      (Finset.univ.filter fun u : Fin 4096 => Ranking.Before (fun u => (a (ix2 v u) : EReal)) u w).card := by
    unfold Definition.rank
    refine (count_last _ _ _ (fun _ => rfl) _ _ v w).trans ?_
    simp only [before_apply]
  have hn : (Finset.univ.filter fun u : Fin 4096 => Ranking.Before (fun u => (a (ix2 v u) : EReal)) u w).card ≤ 4096 :=
    (Finset.card_le_univ _).trans_eq (Fintype.card_fin _)
  have hk : Definition.keep a (ix2 v w)
      = Scalar.select (IntOp.cmpi .slt (Definition.rank a (ix2 v w)) (BitVec.ofNat 32 20)) (a (ix2 v w))
        (FloatOps.ofBits .f32 0x00000000#32) := rfl
  rw [hk, hr, slt_ofNat _ _ (by omega) (by omega)]
  split
  · next h => rw [decide_eq_true h]; rfl
  · next h => rw [decide_eq_false h]; exact Ideal.ofBits_zero_f32

end Cert.Counting

end
-- ==== Proof.TopEntries.lean ====
/- The greatest entries of each row: the positions `top_k` returns, and the mask scattered from them. -/
module

public import proofs.«01_k».proof.Proof.Model
public import proofs.«01_k».proof.Proof.Ranking
public import Idealize.ShloMosaic.Lib.Routing.OpsSet
public import Idealize.ShloMosaic.Lib.Routing.OpsPair
public import Idealize.ShloMosaic.Lib.Pipeline.Value
public import Idealize.ShloMosaic.PureOps.Ideal
public import Idealize.ShloMosaic.PureOps.Ideal.Laws
public import Idealize.ShloMosaic.Lib.IdealHost

@[expose] public section

noncomputable section

namespace Cert.TopEntries

open Cert.KernelIdeal Cert.KernelIdeal.Gen Idealize.ShloMosaic Idealize.ShloMosaic.ValueIdx
open Idealize.ShloMosaic.Routing (shape2 shape3)

/-- `top_k` along the rows: the `j`-th position returned for row `v` is where the stable sort of that row
    takes its `j`-th entry from. -/
theorem topK_position {R C K : ℕ} {α : Type} (gt : α → α → BitVec 1) (x : (shape2 R C).Idx → α)
    (h : (shape2 R C).Slices (fun _ => 0) (shape2 R K)) (v : Fin R) (j : Fin K) (hj : j.val < C) :
    (Host.topK (shape2 R K) 1 gt x h).2 (ix2 v j)
      = BitVec.ofNat 32 (sortedFrom (fun p q => gt (x (ix2 v p)) (x (ix2 v q)) == 1#1) ⟨j.val, hj⟩).val := by
  have hi : (fun a => ⟨0 + (ix2 v j (a.cast h.1.symm)).val,
      Nat.lt_of_lt_of_le (Nat.add_lt_add_left (ix2 v j _).isLt _) (h.2 a)⟩ : (shape2 R C).Idx)
      = ix2 v ⟨j.val, hj⟩ := by
    funext a
    fin_cases a <;> exact Fin.ext (Nat.zero_add _)
  have ha : ∀ k : Fin C, (ix2 v ⟨j.val, hj⟩ : (shape2 R C).Idx).along 1 k = ix2 v k := by
    intro k
    funext a
    fin_cases a <;> rfl
  have h1 : 1 < (shape2 R C).rank := Nat.one_lt_two
  unfold Host.topK Host.sort2
  simp only [dif_pos h1]
  unfold extractStridedSlice
  rw [hi]
  show BitVec.ofNat 32 (((ix2 v ⟨j.val, hj⟩ : (shape2 R C).Idx).along 1 (sortedFrom (n := C)
    (fun p q => gt (x ((ix2 v ⟨j.val, hj⟩ : (shape2 R C).Idx).along 1 p))
      (x ((ix2 v ⟨j.val, hj⟩ : (shape2 R C).Idx).along 1 q)) == 1#1) ⟨j.val, hj⟩)) 1).val = _
  simp only [ha]
  rfl

/-- A number below 2³¹, as a word, reads back signed as itself. -/
theorem toInt_of_lt (x : BitVec 32) (n : ℕ) (hn : n < 2 ^ 31) (h : x.toNat = n) : x.toInt = n := by
  rw [BitVec.toInt_eq_toNat_of_lt (by omega), h]

/-- A row number is its own wrapped index. -/
theorem rowIdx_apply (v : Fin 4096) : Model.rowIdx (ix2 v 0) = BitVec.ofNat 32 v.val :=
  Routing.wrap_of_lt (BitVec.ofNat 32 v.val) _ (by
    have := v.isLt
    rw [BitVec.toNat_ofNat, Nat.mod_eq_of_lt (by omega)]
    omega)

/-- A column number below 4096 is its own wrapped index. -/
theorem wrapIdx_apply (k : IVec S4096x20 32) (v : Fin 4096) (j : Fin 20) (h : (k (ix2 v j)).toNat < 4096) :
    Model.wrapIdx k (ix2 v j) = k (ix2 v j) :=
  Routing.wrap_of_lt (k (ix2 v j)) _ (by omega)

/-- Two index arrays side by side, read in the first. -/
theorem pair_first (u v : IVec S4096x20x1 32) (r : Fin 4096) (j : Fin 20) :
    Model.pair u v (ix3 r j 0) = u (ix3 r j 0) :=
  concatenate_pair_apply_left (t := S4096x20x2) (s₁ := S4096x20x1) (s₂ := S4096x20x1) 2 u v _ (ix3 r j 0) rfl
    (ix3 r j 0) fun b => match b with | ⟨0, _⟩ => rfl | ⟨1, _⟩ => rfl | ⟨2, _⟩ => rfl

/-- Two index arrays side by side, read in the second. -/
theorem pair_second (u v : IVec S4096x20x1 32) (r : Fin 4096) (j : Fin 20) :
    Model.pair u v (ix3 r j 1) = v (ix3 r j 0) :=
  concatenate_pair_apply_right (t := S4096x20x2) (s₁ := S4096x20x1) (s₂ := S4096x20x1) 2 u v _ (ix3 r j 1) rfl rfl
    (ix3 r j 0) (fun b hb => match b, hb with | ⟨0, _⟩, _ => rfl | ⟨1, _⟩, _ => rfl | ⟨2, _⟩, hb => absurd rfl hb) rfl

/-- The first coordinate of an entry kept is its row. -/
theorem keepAt_row (k : IVec S4096x20 32) (v : Fin 4096) (j : Fin 20) :
    Model.keepAt k (ix3 v j 0) = BitVec.ofNat 32 v.val := by
  unfold Model.keepAt
  rw [pair_first]
  refine Eq.trans ?_ (rowIdx_apply v)
  show Model.rowIdx _ = _
  congr 1
  funext a
  fin_cases a <;> rfl

/-- The second coordinate of an entry kept is its column. -/
theorem keepAt_column (k : IVec S4096x20 32) (v : Fin 4096) (j : Fin 20) (h : (k (ix2 v j)).toNat < 4096) :
    Model.keepAt k (ix3 v j 1) = k (ix2 v j) := by
  unfold Model.keepAt
  rw [pair_second]
  refine Eq.trans ?_ (wrapIdx_apply k v j h)
  show Model.wrapIdx k _ = _
  congr 1
  funext a
  fin_cases a <;> rfl

/-- The mask is one where some place of the row keeps that column and zero elsewhere. -/
theorem keepMask_apply (k : IVec S4096x20 32) (hk : ∀ v j, (k (ix2 v j)).toNat < 4096) (v w : Fin 4096) :
    Model.keepMask (F := Ideal) k (ix2 v w) = if ∃ j : Fin 20, (k (ix2 v j)).toNat = w.val then (1 : EReal) else 0 := by
  have lands : ∀ (r : Fin 4096) (j : Fin 20),
      scatter_S4096x4096_S4096x20x2_S4096x20_n_01_01_2.resultIdx? (ix2 r j) (Model.keepAt k) = some (ix2 v w)
        ↔ r = v ∧ (k (ix2 r j)).toNat = w.val := by
    intro r j
    rw [Routing.scatter_lands2 scatter_S4096x4096_S4096x20x2_S4096x20_n_01_01_2 rfl rfl rfl, keepAt_row,
      keepAt_column k r j (hk r j), toInt_of_lt _ r.val (by omega) (by rw [BitVec.toNat_ofNat]; omega),
      toInt_of_lt _ _ (by have := hk r j; omega) rfl]
    constructor
    · rintro ⟨h, h'⟩; exact ⟨Fin.ext (by omega), by omega⟩
    · rintro ⟨rfl, h⟩; exact ⟨rfl, by omega⟩
  unfold Model.keepMask
  split
  · next h =>
    obtain ⟨j, hj⟩ := h
    exact Routing.scatter_set_hit _ _ _ _ _ _ (fun _ _ => Ideal.ofBits_one_f32) (ix2 v j) ((lands v j).2 ⟨rfl, hj⟩)
  · next h =>
    refine (Routing.scatter_set_miss _ _ _ _ _ fun u hu => ?_).trans Ideal.ofBits_zero_f32
    rw [eq_ix2 u] at hu
    obtain ⟨hr, hc⟩ := (lands _ _).1 hu
    exact h ⟨_, hr ▸ hc⟩

/-- The mask of the twenty greatest entries of each row: one at an entry before which fewer than twenty
    entries of its row come, a greater one or an equal one further left. -/
theorem keepMask_topIdx (a : FVec Ideal S4096x4096 .f32) (v w : Fin 4096) :
    Model.keepMask (F := Ideal) (Model.topIdx a) (ix2 v w)
      = if (Finset.univ.filter fun u : Fin 4096 => Ranking.Before (fun u => (a (ix2 v u) : EReal)) u w).card < 20
        then (1 : EReal) else 0 := by
  have pos : ∀ (v : Fin 4096) (j : Fin 20), (Model.topIdx a (ix2 v j)).toNat
      = (sortedFrom (fun p q : Fin 4096 => decide ((a (ix2 v q) : EReal) < a (ix2 v p)))
          ⟨j.val, by omega⟩).val := by
    intro v j
    have e : (fun p q : Fin 4096 => FloatOps.cmpfTotal (F := Ideal) (φ := .f32) .gt (a (ix2 v p)) (a (ix2 v q)) == 1#1)
        = fun p q => decide ((a (ix2 v q) : EReal) < a (ix2 v p)) := by
      funext p q
      show (BitVec.ofBool (decide ((a (ix2 v q) : EReal) < a (ix2 v p))) == 1#1) = _
      cases decide ((a (ix2 v q) : EReal) < a (ix2 v p)) <;> rfl
    unfold Model.topIdx
    rw [topK_position (FloatOps.cmpfTotal (F := Ideal) (φ := .f32) .gt) a _ v j (by omega), e, BitVec.toNat_ofNat]
    exact Nat.mod_eq_of_lt (by omega)
  rw [keepMask_apply _ fun v j => by rw [pos]; omega]
  refine if_congr ?_ rfl rfl
  rw [← Ranking.among_first_iff]
  simp only [pos]
  constructor
  · rintro ⟨j, hj⟩; exact ⟨⟨j.val, by omega⟩, j.isLt, Fin.ext hj⟩
  · rintro ⟨j, h, hj⟩; exact ⟨⟨j.val, h⟩, congrArg Fin.val hj⟩

end Cert.TopEntries

end
-- ==== Proof.Agree.lean ====
/- Over the extended reals the second reference's steps are the model's steps, so the two compute one function. -/
module

public import proofs.«01_k».proof.Proof.Counting
public import proofs.«01_k».proof.Proof.TopEntries
public import proofs.«01_k».proof.Proof.RefTerm

@[expose] public section

noncomputable section

namespace Cert.Agree

open Cert.DefinitionIdeal Cert.DefinitionIdeal.Gen Idealize.ShloMosaic

/-- The product of all pairs of rows, at an entry. -/
theorem cross_apply (p q : FVec Ideal S4096x64 .f32) (i j : Fin 4096) :
    (Model.cross p q (ix2 i j) : EReal) = ∑ k : Fin 64, (p (ix2 i k) : EReal) * q (ix2 j k) := by
  unfold Model.cross; pointwise

/-- `q @ pᵀ` is the transpose of `p @ qᵀ`: the scores from one product are the scores from two. -/
theorem scores_eq (p q : FVec Ideal S4096x64 .f32) : Definition.scores p q = Model.scores p q := by
  unfold Definition.scores Model.scores
  congr 2
  funext i
  obtain ⟨i, j, rfl⟩ : ∃ a b, i = ix2 a b := ⟨i 0, i 1, (ix2_eta i).symm⟩
  rw [cross_apply]
  have e : transpose S4096x4096 [1, 0] (Model.cross p q) transposes_S4096x4096_S4096x4096_1_0 (ix2 i j)
      = Model.cross p q (ix2 j i) := by pointwise
  rw [e, cross_apply]
  exact Finset.sum_congr rfl fun k _ => mul_comm _ _

/-- The entries kept by rank are the entries times the mask scattered from `top_k`. -/
theorem keep_eq (a : FVec Ideal S4096x4096 .f32) :
    Definition.keep a = mulf a (Model.keepMask (Model.topIdx a)) := by
  funext i
  obtain ⟨v, w, rfl⟩ : ∃ a b, i = ix2 a b := ⟨i 0, i 1, (ix2_eta i).symm⟩
  rw [Counting.keep_apply]
  show _ = (a (ix2 v w) : EReal) * Model.keepMask (F := Ideal) (Model.topIdx a) (ix2 v w)
  have e := TopEntries.keepMask_topIdx a v w
  simp only [← ix2_eq_valueIdx] at e
  rw [e]
  split
  · exact (mul_one _).symm
  · exact (mul_zero _).symm

/-- The sum over neighbours, with the factors in either order. -/
theorem aggregate_eq (adj : FVec Ideal S4096x4096 .f32) (x : FVec Ideal S2x8x4096x64 .f32) :
    Definition.aggregate adj x = Model.aggregate adj x := by
  funext i
  obtain ⟨b, t, v, c, rfl⟩ : ∃ a b c d, i = ix4 a b c d := ⟨i 0, i 1, i 2, i 3, (ix4_eta i).symm⟩
  have e1 : (Definition.aggregate adj x (ix4 b t v c) : EReal)
      = ∑ w : Fin 4096, (adj (ix2 v w) : EReal) * x (ix4 b t w c) := by
    unfold Definition.aggregate; pointwise
  have e2 : (Model.aggregate adj x (ix4 b t v c) : EReal)
      = ∑ w : Fin 4096, (x (ix4 b t w c) : EReal) * adj (ix2 v w) := by
    unfold Model.aggregate; pointwise
  rw [e1, e2]
  exact Finset.sum_congr rfl fun w _ => mul_comm _ _

/-- The compressor as a sum is the compressor as a product with a column. -/
theorem compress_eq (h : FVec Ideal S2x8x4096x64 .f32) (wc : FVec Ideal S64x1 .f32) (bc : FVec Ideal S1 .f32) :
    Definition.compress h wc bc = Model.compress h wc bc := by
  funext i
  obtain ⟨b, t, v, rfl⟩ : ∃ a b c, i = ix3 a b c := ⟨i 0, i 1, i 2, (ix3_eta i).symm⟩
  unfold Definition.compress Model.compress Model.along
  pointwise

/-- The bias laid along the last axis in two steps is the bias laid in one. -/
theorem biasRow_eq (b : FVec Ideal S256 .f32) : Definition.biasRow b = Model.biasRow b :=
  RefTerm.bias_two_steps b

open Idealize.ShloMosaic.TcCoe Idealize.SL.Sem in
/-- The second reference's result array is the model's function of the arguments. -/
theorem result_eq (m : (ℓ : Loc nD τ sig) → Buf (Elt Ideal) ℓ) (c : Dev nD) :
    Value.res_out0 m c = Model.result (F := Ideal) (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7))
      (m ((c : Thread nD τ).loc main_arg8)) (m ((c : Thread nD τ).loc main_arg9))
      (m ((c : Thread nD τ).loc main_arg10)) (m ((c : Thread nD τ).loc main_arg11))
      (m ((c : Thread nD τ).loc main_arg12)) (m ((c : Thread nD τ).loc main_arg13)) := by
  refine (Definition.result_eq m c).trans ?_
  unfold Model.result Definition.product Model.product Model.adjacency
  rw [compress_eq, aggregate_eq, keep_eq, scores_eq]
  exact congrArg₂ addf rfl (biasRow_eq _)

end Cert.Agree

end
-- ==== Proof.SameTerm.lean ====
/- No rewriting separates the kernel from its form over the extended reals, nor the reference from its own, so what
   each leaves in its result is the same term of the same arguments, for any float values. -/
module

public import proofs.«01_k».proof.Proof.Gen.Kernel.Value
public import proofs.«01_k».proof.Proof.Gen.Reference.Run
public import proofs.«01_k».proof.Proof.HostTerm
public import proofs.«01_k».proof.Proof.RefTerm

@[expose] public section

noncomputable section

namespace Cert.SameTerm

open Idealize.ShloMosaic Idealize.ShloMosaic.TcCoe Idealize.SL.Sem

variable {F : FTy → Type} [FloatOps F]

set_option maxRecDepth 8192 in
/-- The printed kernel's result array after its run is the model's function of the arguments. -/
theorem kernel_result (m : (ℓ : Loc Kernel.nD Kernel.τ Kernel.sig) → Buf (Elt F) ℓ) (c : Dev Kernel.nD) :
    (Kernel.Gen.dats m 0 c).arrAt 2 Kernel.cfg0.N = Model.result (F := F)
      (m ((c : Thread Kernel.nD Kernel.τ).loc Kernel.main_arg0)) (m ((c : Thread Kernel.nD Kernel.τ).loc Kernel.main_arg1))
      (m ((c : Thread Kernel.nD Kernel.τ).loc Kernel.main_arg2)) (m ((c : Thread Kernel.nD Kernel.τ).loc Kernel.main_arg3))
      (m ((c : Thread Kernel.nD Kernel.τ).loc Kernel.main_arg4)) (m ((c : Thread Kernel.nD Kernel.τ).loc Kernel.main_arg5))
      (m ((c : Thread Kernel.nD Kernel.τ).loc Kernel.main_arg6)) (m ((c : Thread Kernel.nD Kernel.τ).loc Kernel.main_arg7))
      (m ((c : Thread Kernel.nD Kernel.τ).loc Kernel.main_arg8)) (m ((c : Thread Kernel.nD Kernel.τ).loc Kernel.main_arg9))
      (m ((c : Thread Kernel.nD Kernel.τ).loc Kernel.main_arg10)) (m ((c : Thread Kernel.nD Kernel.τ).loc Kernel.main_arg11))
      (m ((c : Thread Kernel.nD Kernel.τ).loc Kernel.main_arg12)) (m ((c : Thread Kernel.nD Kernel.τ).loc Kernel.main_arg13)) := by
  have e : (Kernel.Gen.dats m 0 c).arrAt 2 Kernel.cfg0.N
      = (KernelIdeal.Gen.dats (F := F) m 0 c).arrAt 2 KernelIdeal.cfg0.N := rfl
  refine e.trans ((KernelIdeal.BiasAdd.final (F := F) m c).trans ?_)
  unfold KernelIdeal.BiasAdd.sum
  rw [KernelIdeal.BiasAdd.operand_product, KernelIdeal.BiasAdd.operand_bias]
  rfl

set_option maxRecDepth 8192 in
/-- The printed reference's result array is the model's function of the arguments. -/
theorem reference_result (m : (ℓ : Loc Reference.nD Reference.τ Reference.sig) → Buf (Elt F) ℓ)
    (c : Dev Reference.nD) :
    Reference.Value.res_out0 m c = Model.result (F := F)
      (m ((c : Thread Reference.nD Reference.τ).loc Reference.main_arg0))
      (m ((c : Thread Reference.nD Reference.τ).loc Reference.main_arg1))
      (m ((c : Thread Reference.nD Reference.τ).loc Reference.main_arg2))
      (m ((c : Thread Reference.nD Reference.τ).loc Reference.main_arg3))
      (m ((c : Thread Reference.nD Reference.τ).loc Reference.main_arg4))
      (m ((c : Thread Reference.nD Reference.τ).loc Reference.main_arg5))
      (m ((c : Thread Reference.nD Reference.τ).loc Reference.main_arg6))
      (m ((c : Thread Reference.nD Reference.τ).loc Reference.main_arg7))
      (m ((c : Thread Reference.nD Reference.τ).loc Reference.main_arg8))
      (m ((c : Thread Reference.nD Reference.τ).loc Reference.main_arg9))
      (m ((c : Thread Reference.nD Reference.τ).loc Reference.main_arg10))
      (m ((c : Thread Reference.nD Reference.τ).loc Reference.main_arg11))
      (m ((c : Thread Reference.nD Reference.τ).loc Reference.main_arg12))
      (m ((c : Thread Reference.nD Reference.τ).loc Reference.main_arg13)) := by
  have e : Reference.Value.res_out0 m c = ReferenceIdeal.Value.res_out0 (F := F) m c := rfl
  exact e.trans (RefTerm.result_eq (F := F) m c)

end Cert.SameTerm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.DefinitionIdeal
public import proofs.«01_k».proof.Proof.Gen.DefinitionIdeal.Run
public import proofs.«01_k».proof.Proof.Gen.KernelIdeal.Value
public import proofs.«01_k».proof.Proof.Gen.Kernel.Value
public import proofs.«01_k».proof.Proof.Gen.Reference
public import proofs.«01_k».proof.Proof.Gen.Reference.Run
public import Idealize.ShloMosaic.Adequacy
public import Idealize.ShloMosaic.Init
public import proofs.«01_k».proof.Proof.HostTerm
public import proofs.«01_k».proof.Proof.RefTerm
public import proofs.«01_k».proof.Proof.Agree
public import proofs.«01_k».proof.Proof.SameTerm
public import Idealize.ShloMosaic.Lib.Quiescent
public import Idealize.ShloMosaic.Lib.Claim

@[expose] public section

noncomputable section

namespace Cert.Proof

open Idealize.ShloMosaic Idealize.SL.Sem Cert.Kernel

/-- The kernel as printed runs, leaves its arguments unchanged, and every semaphore ends at zero. -/
theorem frame_kernel : Cert.quiescent_Kernel := fun m ρ _ => Cert.Kernel.Gen.frame m ρ

/-- The same of the kernel over the extended reals. -/
theorem frame_kernel_ideal : Cert.quiescent_KernelIdeal := fun m ρ _ => Cert.KernelIdeal.Gen.frame m ρ

/-- The reference over the extended reals runs and leaves its arguments unchanged; it has no semaphore. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The function both sides compute, of the kernel's argument arrays on device `c`. -/
def value (m : (ℓ : Loc Cert.KernelIdeal.nD Cert.KernelIdeal.τ Cert.KernelIdeal.sig) → Buf (Elt Ideal) ℓ)
    (c : Dev Cert.KernelIdeal.nD) : FVec Ideal Cert.KernelIdeal.S2x8x256 .f32 :=
  Model.result (m (c.tc.loc Cert.KernelIdeal.main_arg0)) (m (c.tc.loc Cert.KernelIdeal.main_arg1))
    (m (c.tc.loc Cert.KernelIdeal.main_arg2)) (m (c.tc.loc Cert.KernelIdeal.main_arg3))
    (m (c.tc.loc Cert.KernelIdeal.main_arg4)) (m (c.tc.loc Cert.KernelIdeal.main_arg5))
    (m (c.tc.loc Cert.KernelIdeal.main_arg6)) (m (c.tc.loc Cert.KernelIdeal.main_arg7))
    (m (c.tc.loc Cert.KernelIdeal.main_arg8)) (m (c.tc.loc Cert.KernelIdeal.main_arg9))
    (m (c.tc.loc Cert.KernelIdeal.main_arg10)) (m (c.tc.loc Cert.KernelIdeal.main_arg11))
    (m (c.tc.loc Cert.KernelIdeal.main_arg12)) (m (c.tc.loc Cert.KernelIdeal.main_arg13))

/-- The kernel's result array ends at `value`. -/
theorem kernel_value (m : (ℓ : Loc Cert.KernelIdeal.nD Cert.KernelIdeal.τ Cert.KernelIdeal.sig) → Buf (Elt Ideal) ℓ)
    (c : Dev Cert.KernelIdeal.nD) :
    (Cert.KernelIdeal.Gen.dats m 0 c).arrAt 2 Cert.KernelIdeal.cfg0.N = value m c := by
  rw [Cert.KernelIdeal.BiasAdd.final]
  unfold Cert.KernelIdeal.BiasAdd.sum
  rw [Cert.KernelIdeal.BiasAdd.operand_product, Cert.KernelIdeal.BiasAdd.operand_bias]
  rfl

/-- From memories agreeing on the arguments, the kernel and the reference over the extended reals end with
    the same result array. -/
theorem algebraic : Cert.algebraic_KernelIdeal_ReferenceIdeal := by
  intro m ρ m' ρ' _ hagree
  refine ⟨value m, ?_, ?_⟩
  · exact (θ_run Cert.KernelIdeal.defs _ _).mono (fun _ h c => ⟨(h c).1.trans (kernel_value m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13⟩ := hagree c
    refine (Cert.RefTerm.result_eq m' c).trans ?_
    rw [h0, h1, h2, h3, h4, h5, h6, h7, h8, h9, h10, h11, h12, h13]
    rfl

/-- The second reference over the extended reals runs and leaves its arguments unchanged; it has no semaphore. -/
theorem frame_definition_ideal : Cert.quiescent_DefinitionIdeal := fun m ρ _ =>
  (θ_run Cert.DefinitionIdeal.defs _ _).mono (fun r h => ⟨fun c => (h c).2, sem_eq_zero_of_no_sems (by decide) r.2⟩)
    (Cert.DefinitionIdeal.Value.run (F := Ideal) m ρ)

/-- From memories agreeing on the arguments, the kernel and the second reference over the extended reals end
    with the same result array. -/
theorem algebraic_definition : Cert.algebraic_KernelIdeal_DefinitionIdeal := by
  intro m ρ m' ρ' _ hagree
  refine ⟨value m, ?_, ?_⟩
  · exact (θ_run Cert.KernelIdeal.defs _ _).mono (fun _ h c => ⟨(h c).1.trans (kernel_value m c), (h c).2⟩)
      (Cert.KernelIdeal.Value.run_blocks (F := Ideal) m ρ)
  · refine (θ_run Cert.DefinitionIdeal.defs _ _).mono (fun _ h c => ⟨(h c).1.trans ?_, (h c).2⟩)
      (Cert.DefinitionIdeal.Value.run (F := Ideal) m' ρ')
    obtain ⟨h0, h1, h2, h3, h4, h5, h6, h7, h8, h9, h10, h11, h12, h13⟩ := hagree c
    refine (Cert.Agree.result_eq m' c).trans ?_
    rw [h0, h1, h2, h3, h4, h5, h6, h7, h8, h9, h10, h11, h12, h13]
    rfl

/-- The reference as printed runs and leaves its arguments unchanged; it has no semaphore. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- From memories agreeing on the arguments, the kernel and the reference as printed end with the same result
    array, bit for bit. -/
theorem bitexact : Cert.bitexact_Kernel_Reference := by
  intro m ρ m' ρ' _ hagree
  refine ⟨fun c => (Cert.Kernel.Gen.dats (F := Bits) m 0 c).arrAt 2 Cert.Kernel.cfg0.N, ?_, ?_⟩
  · exact (θ_run Cert.Kernel.defs _ _).mono (fun _ h c => h c) (Cert.Kernel.Value.run_blocks (F := Bits) m ρ)
  · refine (θ_run Cert.Reference.defs _ _).mono (fun _ h c => ⟨(h c).1.trans ?_, (h c).2⟩)
      (Cert.Reference.Value.run (F := Bits) m' ρ')
    obtain ⟨h0, h1, h2, h3, h4, h5, h6, h7, h8, h9, h10, h11, h12, h13⟩ := hagree c
    refine (Cert.SameTerm.reference_result m' c).trans ?_
    rw [h0, h1, h2, h3, h4, h5, h6, h7, h8, h9, h10, h11, h12, h13]
    exact (Cert.SameTerm.kernel_result m c).symm

/-- All the claims. -/
theorem claim : Cert.Claim := ⟨Cert.Kernel.Gen.facts, Cert.KernelIdeal.Gen.facts, Cert.ReferenceIdeal.Gen.facts,
  Cert.DefinitionIdeal.Gen.facts, Cert.Reference.Gen.facts, frame_kernel, frame_kernel_ideal, frame_reference_ideal,
  frame_definition_ideal, frame_reference, trivial, algebraic, algebraic_definition, bitexact⟩

end Cert.Proof

end
